-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x4096x1024 : Shape := ⟨3, ![8, 4096, 1024]⟩
abbrev S16x1x6144 : Shape := ⟨3, ![16, 1, 6144]⟩
abbrev S1024 : Shape := ⟨1, ![1024]⟩
abbrev S1024x5632 : Shape := ⟨2, ![1024, 5632]⟩
abbrev S3x3x5632 : Shape := ⟨3, ![3, 3, 5632]⟩
abbrev S5632 : Shape := ⟨1, ![5632]⟩
abbrev S2816x1024 : Shape := ⟨2, ![2816, 1024]⟩
abbrev S9x5632 : Shape := ⟨2, ![9, 5632]⟩
abbrev S1x5632 : Shape := ⟨2, ![1, 5632]⟩
abbrev S1x1024 : Shape := ⟨2, ![1, 1024]⟩
abbrev S1x64x1024 : Shape := ⟨3, ![1, 64, 1024]⟩
abbrev S1x2048x1024 : Shape := ⟨3, ![1, 2048, 1024]⟩
abbrev S1024x256 : Shape := ⟨2, ![1024, 256]⟩
abbrev S9x256 : Shape := ⟨2, ![9, 256]⟩
abbrev S1x256 : Shape := ⟨2, ![1, 256]⟩
abbrev S256x1024 : Shape := ⟨2, ![256, 1024]⟩
abbrev S1x1x1024 : Shape := ⟨3, ![1, 1, 1024]⟩
abbrev S4x2192x128 : Shape := ⟨3, ![4, 2192, 128]⟩
abbrev S2048x256 : Shape := ⟨2, ![2048, 256]⟩
abbrev S8x128 : Shape := ⟨2, ![8, 128]⟩
abbrev S1x8x128 : Shape := ⟨3, ![1, 8, 128]⟩
abbrev S1024x128 : Shape := ⟨2, ![1024, 128]⟩
abbrev S64x1024 : Shape := ⟨2, ![64, 1024]⟩
abbrev S64x256 : Shape := ⟨2, ![64, 256]⟩
abbrev S64x128 : Shape := ⟨2, ![64, 128]⟩
abbrev S1x64x128 : Shape := ⟨3, ![1, 64, 128]⟩
abbrev S1x1024x1024 : Shape := ⟨3, ![1, 1024, 1024]⟩
abbrev S1024x1024 : Shape := ⟨2, ![1024, 1024]⟩
abbrev S1x1024x128 : Shape := ⟨3, ![1, 1024, 128]⟩
abbrev S1x128 : Shape := ⟨2, ![1, 128]⟩
abbrev S1x1024x256 : Shape := ⟨3, ![1, 1024, 256]⟩
abbrev S256x256 : Shape := ⟨2, ![256, 256]⟩
abbrev S1x256x1024 : Shape := ⟨3, ![1, 256, 1024]⟩
abbrev S256 : Shape := ⟨1, ![256]⟩
abbrev S256x1 : Shape := ⟨2, ![256, 1]⟩

abbrev nBuf : Space → Nat
  | .hbm => 12
  | .vmem => 29
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S16x1x6144, .f32⟩
  | .hbm, ⟨3, _⟩ => ⟨S1024, .f32⟩
  | .hbm, ⟨4, _⟩ => ⟨S1024x5632, .bf16⟩
  | .hbm, ⟨5, _⟩ => ⟨S3x3x5632, .f32⟩
  | .hbm, ⟨6, _⟩ => ⟨S5632, .f32⟩
  | .hbm, ⟨7, _⟩ => ⟨S2816x1024, .bf16⟩
  | .hbm, ⟨8, _⟩ => ⟨S9x5632, .f32⟩
  | .hbm, ⟨9, _⟩ => ⟨S1x5632, .f32⟩
  | .hbm, ⟨10, _⟩ => ⟨S1x1024, .f32⟩
  | .hbm, ⟨11, _⟩ => ⟨S8x4096x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S9x256, .f32⟩
  | .local _ .vmem, ⟨11, _⟩ => ⟨S9x256, .f32⟩
  | .local _ .vmem, ⟨12, _⟩ => ⟨S9x256, .f32⟩
  | .local _ .vmem, ⟨13, _⟩ => ⟨S9x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x1024, .bf16⟩
  | .local _ .vmem, ⟨19, _⟩ => ⟨S256x1024, .bf16⟩
  | .local _ .vmem, ⟨20, _⟩ => ⟨S1x2048x1024, .f32⟩
  | .local _ .vmem, ⟨21, _⟩ => ⟨S1x2048x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1x2048x1024, .f32⟩
  | .local _ .vmem, ⟨26, _⟩ => ⟨S1x2048x1024, .f32⟩
  | .local _ .vmem, ⟨27, _⟩ => ⟨S4x2192x128, .f32⟩
  | .local _ .vmem, ⟨28, _⟩ => ⟨S2048x256, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![8, 2, 11], ![false, false, false]⟩

@[reducible] def k0_t1_loop : Scf.Loop 32 :=
  let c0_i32_121 : BitVec 32 := 0#32
  let c32_i32 : BitVec 32 := 32#32
  let v190 : BitVec 32 := Scalar.addi c0_i32_121 c32_i32
  let c1_i32_122 : BitVec 32 := 1#32
  ⟨c0_i32_121, v190, c1_i32_122⟩
def k0_mult1 (k0_t1 : Fin k0_t1_loop.trips) : BitVec 32 :=
  let c0_i32_121 : BitVec 32 := 0#32
  let c1_i32_122 : BitVec 32 := 1#32
  let arg19 : BitVec 32 := Scf.iv c0_i32_121 c1_i32_122 k0_t1
  let c64_i32 : BitVec 32 := 64#32
  let v341 : BitVec 32 := Scalar.muli arg19 c64_i32
  v341
def k0_off1 (k0_t1 : Fin k0_t1_loop.trips) (c0_i32_242 : BitVec 32) (c_m65_i32 : BitVec 32) : Fin 3 → Nat :=
  let c0_243 : Index := 0#32
  let c72_i32 : BitVec 32 := 72#32
  let c0_i32_121 : BitVec 32 := 0#32
  let c1_i32_122 : BitVec 32 := 1#32
  let arg19 : BitVec 32 := Scf.iv c0_i32_121 c1_i32_122 k0_t1
  let c64_i32 : BitVec 32 := 64#32
  let v341 : BitVec 32 := Scalar.muli arg19 c64_i32
  let v342 : BitVec 32 := v341
  let v343 : BitVec 32 := Scalar.addi c72_i32 v342
  let v344 : BitVec 32 := Scalar.addi v343 c0_i32_242
  let v345 : BitVec 32 := Scalar.addi v344 c_m65_i32
  let v346 : Index := Scalar.indexCast v345
  let c0_244 : Index := 0#32
  ![0, v346.toNat, 0]
def k0_off1_at (r : Fin 72) : BitVec 32 × BitVec 32 :=
  if r.val < 36 then
    if r.val < 18 then
      if r.val < 9 then
        if r.val < 4 then
          if r.val < 2 then
            if r.val < 1 then
              (0#32, 4294967231#32)
            else
              (0#32, 4294967295#32)
          else
            if r.val < 3 then
              (0#32, 63#32)
            else
              (0#32, 4294967232#32)
        else
          if r.val < 6 then
            if r.val < 5 then
              (0#32, 0#32)
            else
              (0#32, 64#32)
          else
            if r.val < 7 then
              (0#32, 4294967233#32)
            else
              if r.val < 8 then
                (0#32, 1#32)
              else
                (0#32, 65#32)
      else
        if r.val < 13 then
          if r.val < 11 then
            if r.val < 10 then
              (8#32, 4294967231#32)
            else
              (8#32, 4294967295#32)
          else
            if r.val < 12 then
              (8#32, 63#32)
            else
              (8#32, 4294967232#32)
        else
          if r.val < 15 then
            if r.val < 14 then
              (8#32, 0#32)
            else
              (8#32, 64#32)
          else
            if r.val < 16 then
              (8#32, 4294967233#32)
            else
              if r.val < 17 then
                (8#32, 1#32)
              else
                (8#32, 65#32)
    else
      if r.val < 27 then
        if r.val < 22 then
          if r.val < 20 then
            if r.val < 19 then
              (16#32, 4294967231#32)
            else
              (16#32, 4294967295#32)
          else
            if r.val < 21 then
              (16#32, 63#32)
            else
              (16#32, 4294967232#32)
        else
          if r.val < 24 then
            if r.val < 23 then
              (16#32, 0#32)
            else
              (16#32, 64#32)
          else
            if r.val < 25 then
              (16#32, 4294967233#32)
            else
              if r.val < 26 then
                (16#32, 1#32)
              else
                (16#32, 65#32)
      else
        if r.val < 31 then
          if r.val < 29 then
            if r.val < 28 then
              (24#32, 4294967231#32)
            else
              (24#32, 4294967295#32)
          else
            if r.val < 30 then
              (24#32, 63#32)
            else
              (24#32, 4294967232#32)
        else
          if r.val < 33 then
            if r.val < 32 then
              (24#32, 0#32)
            else
              (24#32, 64#32)
          else
            if r.val < 34 then
              (24#32, 4294967233#32)
            else
              if r.val < 35 then
                (24#32, 1#32)
              else
                (24#32, 65#32)
  else
    if r.val < 54 then
      if r.val < 45 then
        if r.val < 40 then
          if r.val < 38 then
            if r.val < 37 then
              (32#32, 4294967231#32)
            else
              (32#32, 4294967295#32)
          else
            if r.val < 39 then
              (32#32, 63#32)
            else
              (32#32, 4294967232#32)
        else
          if r.val < 42 then
            if r.val < 41 then
              (32#32, 0#32)
            else
              (32#32, 64#32)
          else
            if r.val < 43 then
              (32#32, 4294967233#32)
            else
              if r.val < 44 then
                (32#32, 1#32)
              else
                (32#32, 65#32)
      else
        if r.val < 49 then
          if r.val < 47 then
            if r.val < 46 then
              (40#32, 4294967231#32)
            else
              (40#32, 4294967295#32)
          else
            if r.val < 48 then
              (40#32, 63#32)
            else
              (40#32, 4294967232#32)
        else
          if r.val < 51 then
            if r.val < 50 then
              (40#32, 0#32)
            else
              (40#32, 64#32)
          else
            if r.val < 52 then
              (40#32, 4294967233#32)
            else
              if r.val < 53 then
                (40#32, 1#32)
              else
                (40#32, 65#32)
    else
      if r.val < 63 then
        if r.val < 58 then
          if r.val < 56 then
            if r.val < 55 then
              (48#32, 4294967231#32)
            else
              (48#32, 4294967295#32)
          else
            if r.val < 57 then
              (48#32, 63#32)
            else
              (48#32, 4294967232#32)
        else
          if r.val < 60 then
            if r.val < 59 then
              (48#32, 0#32)
            else
              (48#32, 64#32)
          else
            if r.val < 61 then
              (48#32, 4294967233#32)
            else
              if r.val < 62 then
                (48#32, 1#32)
              else
                (48#32, 65#32)
      else
        if r.val < 67 then
          if r.val < 65 then
            if r.val < 64 then
              (56#32, 4294967231#32)
            else
              (56#32, 4294967295#32)
          else
            if r.val < 66 then
              (56#32, 63#32)
            else
              (56#32, 4294967232#32)
        else
          if r.val < 69 then
            if r.val < 68 then
              (56#32, 0#32)
            else
              (56#32, 64#32)
          else
            if r.val < 70 then
              (56#32, 4294967233#32)
            else
              if r.val < 71 then
                (56#32, 1#32)
              else
                (56#32, 65#32)
def k0_off2 (k0_t1 : Fin k0_t1_loop.trips) (c0_i32_242 : BitVec 32) (c_m65_i32_266 : BitVec 32) : Fin 3 → Nat :=
  let c2_267 : Index := 2#32
  let c72_i32 : BitVec 32 := 72#32
  let c0_i32_121 : BitVec 32 := 0#32
  let c1_i32_122 : BitVec 32 := 1#32
  let arg19 : BitVec 32 := Scf.iv c0_i32_121 c1_i32_122 k0_t1
  let c64_i32 : BitVec 32 := 64#32
  let v341 : BitVec 32 := Scalar.muli arg19 c64_i32
  let v342 : BitVec 32 := v341
  let v343 : BitVec 32 := Scalar.addi c72_i32 v342
  let v344 : BitVec 32 := Scalar.addi v343 c0_i32_242
  let v403 : BitVec 32 := Scalar.addi v344 c_m65_i32_266
  let v404 : Index := Scalar.indexCast v403
  let c0_268 : Index := 0#32
  ![2, v404.toNat, 0]
def k0_off2_at (r : Fin 72) : BitVec 32 × BitVec 32 :=
  if r.val < 36 then
    if r.val < 18 then
      if r.val < 9 then
        if r.val < 4 then
          if r.val < 2 then
            if r.val < 1 then
              (0#32, 4294967231#32)
            else
              (0#32, 4294967295#32)
          else
            if r.val < 3 then
              (0#32, 63#32)
            else
              (0#32, 4294967232#32)
        else
          if r.val < 6 then
            if r.val < 5 then
              (0#32, 0#32)
            else
              (0#32, 64#32)
          else
            if r.val < 7 then
              (0#32, 4294967233#32)
            else
              if r.val < 8 then
                (0#32, 1#32)
              else
                (0#32, 65#32)
      else
        if r.val < 13 then
          if r.val < 11 then
            if r.val < 10 then
              (8#32, 4294967231#32)
            else
              (8#32, 4294967295#32)
          else
            if r.val < 12 then
              (8#32, 63#32)
            else
              (8#32, 4294967232#32)
        else
          if r.val < 15 then
            if r.val < 14 then
              (8#32, 0#32)
            else
              (8#32, 64#32)
          else
            if r.val < 16 then
              (8#32, 4294967233#32)
            else
              if r.val < 17 then
                (8#32, 1#32)
              else
                (8#32, 65#32)
    else
      if r.val < 27 then
        if r.val < 22 then
          if r.val < 20 then
            if r.val < 19 then
              (16#32, 4294967231#32)
            else
              (16#32, 4294967295#32)
          else
            if r.val < 21 then
              (16#32, 63#32)
            else
              (16#32, 4294967232#32)
        else
          if r.val < 24 then
            if r.val < 23 then
              (16#32, 0#32)
            else
              (16#32, 64#32)
          else
            if r.val < 25 then
              (16#32, 4294967233#32)
            else
              if r.val < 26 then
                (16#32, 1#32)
              else
                (16#32, 65#32)
      else
        if r.val < 31 then
          if r.val < 29 then
            if r.val < 28 then
              (24#32, 4294967231#32)
            else
              (24#32, 4294967295#32)
          else
            if r.val < 30 then
              (24#32, 63#32)
            else
              (24#32, 4294967232#32)
        else
          if r.val < 33 then
            if r.val < 32 then
              (24#32, 0#32)
            else
              (24#32, 64#32)
          else
            if r.val < 34 then
              (24#32, 4294967233#32)
            else
              if r.val < 35 then
                (24#32, 1#32)
              else
                (24#32, 65#32)
  else
    if r.val < 54 then
      if r.val < 45 then
        if r.val < 40 then
          if r.val < 38 then
            if r.val < 37 then
              (32#32, 4294967231#32)
            else
              (32#32, 4294967295#32)
          else
            if r.val < 39 then
              (32#32, 63#32)
            else
              (32#32, 4294967232#32)
        else
          if r.val < 42 then
            if r.val < 41 then
              (32#32, 0#32)
            else
              (32#32, 64#32)
          else
            if r.val < 43 then
              (32#32, 4294967233#32)
            else
              if r.val < 44 then
                (32#32, 1#32)
              else
                (32#32, 65#32)
      else
        if r.val < 49 then
          if r.val < 47 then
            if r.val < 46 then
              (40#32, 4294967231#32)
            else
              (40#32, 4294967295#32)
          else
            if r.val < 48 then
              (40#32, 63#32)
            else
              (40#32, 4294967232#32)
        else
          if r.val < 51 then
            if r.val < 50 then
              (40#32, 0#32)
            else
              (40#32, 64#32)
          else
            if r.val < 52 then
              (40#32, 4294967233#32)
            else
              if r.val < 53 then
                (40#32, 1#32)
              else
                (40#32, 65#32)
    else
      if r.val < 63 then
        if r.val < 58 then
          if r.val < 56 then
            if r.val < 55 then
              (48#32, 4294967231#32)
            else
              (48#32, 4294967295#32)
          else
            if r.val < 57 then
              (48#32, 63#32)
            else
              (48#32, 4294967232#32)
        else
          if r.val < 60 then
            if r.val < 59 then
              (48#32, 0#32)
            else
              (48#32, 64#32)
          else
            if r.val < 61 then
              (48#32, 4294967233#32)
            else
              if r.val < 62 then
                (48#32, 1#32)
              else
                (48#32, 65#32)
      else
        if r.val < 67 then
          if r.val < 65 then
            if r.val < 64 then
              (56#32, 4294967231#32)
            else
              (56#32, 4294967295#32)
          else
            if r.val < 66 then
              (56#32, 63#32)
            else
              (56#32, 4294967232#32)
        else
          if r.val < 69 then
            if r.val < 68 then
              (56#32, 0#32)
            else
              (56#32, 64#32)
          else
            if r.val < 70 then
              (56#32, 4294967233#32)
            else
              if r.val < 71 then
                (56#32, 1#32)
              else
                (56#32, 65#32)
def k0_off3 (k0_t1 : Fin k0_t1_loop.trips) : Fin 2 → Nat :=
  let c0_i32_121 : BitVec 32 := 0#32
  let c1_i32_122 : BitVec 32 := 1#32
  let arg19 : BitVec 32 := Scf.iv c0_i32_121 c1_i32_122 k0_t1
  let c64_i32 : BitVec 32 := 64#32
  let v341 : BitVec 32 := Scalar.muli arg19 c64_i32
  let v342 : BitVec 32 := v341
  let v1353 : Index := Scalar.indexCast v342
  let c0_716 : Index := 0#32
  ![v1353.toNat, 0]
@[reducible] def k0_t2_loop : Scf.Loop 32 :=
  let c0_i32_164 : BitVec 32 := 0#32
  let c32_i32_165 : BitVec 32 := 32#32
  let v271 : BitVec 32 := Scalar.addi c0_i32_164 c32_i32_165
  let c1_i32_166 : BitVec 32 := 1#32
  ⟨c0_i32_164, v271, c1_i32_166⟩
def k0_mult2 (k0_t2 : Fin k0_t2_loop.trips) : BitVec 32 :=
  let c0_i32_164 : BitVec 32 := 0#32
  let c1_i32_166 : BitVec 32 := 1#32
  let arg19 : BitVec 32 := Scf.iv c0_i32_164 c1_i32_166 k0_t2
  let c64_i32 : BitVec 32 := 64#32
  let v341 : BitVec 32 := Scalar.muli arg19 c64_i32
  v341
def k0_off4 (k0_t2 : Fin k0_t2_loop.trips) (c0_i32_242 : BitVec 32) (c_m65_i32 : BitVec 32) : Fin 3 → Nat :=
  let c1_243 : Index := 1#32
  let c72_i32 : BitVec 32 := 72#32
  let c0_i32_164 : BitVec 32 := 0#32
  let c1_i32_166 : BitVec 32 := 1#32
  let arg19 : BitVec 32 := Scf.iv c0_i32_164 c1_i32_166 k0_t2
  let c64_i32 : BitVec 32 := 64#32
  let v341 : BitVec 32 := Scalar.muli arg19 c64_i32
  let v342 : BitVec 32 := v341
  let v343 : BitVec 32 := Scalar.addi c72_i32 v342
  let v344 : BitVec 32 := Scalar.addi v343 c0_i32_242
  let v345 : BitVec 32 := Scalar.addi v344 c_m65_i32
  let v346 : Index := Scalar.indexCast v345
  let c0_244 : Index := 0#32
  ![1, v346.toNat, 0]
def k0_off4_at (r : Fin 72) : BitVec 32 × BitVec 32 :=
  if r.val < 36 then
    if r.val < 18 then
      if r.val < 9 then
        if r.val < 4 then
          if r.val < 2 then
            if r.val < 1 then
              (0#32, 4294967231#32)
            else
              (0#32, 4294967295#32)
          else
            if r.val < 3 then
              (0#32, 63#32)
            else
              (0#32, 4294967232#32)
        else
          if r.val < 6 then
            if r.val < 5 then
              (0#32, 0#32)
            else
              (0#32, 64#32)
          else
            if r.val < 7 then
              (0#32, 4294967233#32)
            else
              if r.val < 8 then
                (0#32, 1#32)
              else
                (0#32, 65#32)
      else
        if r.val < 13 then
          if r.val < 11 then
            if r.val < 10 then
              (8#32, 4294967231#32)
            else
              (8#32, 4294967295#32)
          else
            if r.val < 12 then
              (8#32, 63#32)
            else
              (8#32, 4294967232#32)
        else
          if r.val < 15 then
            if r.val < 14 then
              (8#32, 0#32)
            else
              (8#32, 64#32)
          else
            if r.val < 16 then
              (8#32, 4294967233#32)
            else
              if r.val < 17 then
                (8#32, 1#32)
              else
                (8#32, 65#32)
    else
      if r.val < 27 then
        if r.val < 22 then
          if r.val < 20 then
            if r.val < 19 then
              (16#32, 4294967231#32)
            else
              (16#32, 4294967295#32)
          else
            if r.val < 21 then
              (16#32, 63#32)
            else
              (16#32, 4294967232#32)
        else
          if r.val < 24 then
            if r.val < 23 then
              (16#32, 0#32)
            else
              (16#32, 64#32)
          else
            if r.val < 25 then
              (16#32, 4294967233#32)
            else
              if r.val < 26 then
                (16#32, 1#32)
              else
                (16#32, 65#32)
      else
        if r.val < 31 then
          if r.val < 29 then
            if r.val < 28 then
              (24#32, 4294967231#32)
            else
              (24#32, 4294967295#32)
          else
            if r.val < 30 then
              (24#32, 63#32)
            else
              (24#32, 4294967232#32)
        else
          if r.val < 33 then
            if r.val < 32 then
              (24#32, 0#32)
            else
              (24#32, 64#32)
          else
            if r.val < 34 then
              (24#32, 4294967233#32)
            else
              if r.val < 35 then
                (24#32, 1#32)
              else
                (24#32, 65#32)
  else
    if r.val < 54 then
      if r.val < 45 then
        if r.val < 40 then
          if r.val < 38 then
            if r.val < 37 then
              (32#32, 4294967231#32)
            else
              (32#32, 4294967295#32)
          else
            if r.val < 39 then
              (32#32, 63#32)
            else
              (32#32, 4294967232#32)
        else
          if r.val < 42 then
            if r.val < 41 then
              (32#32, 0#32)
            else
              (32#32, 64#32)
          else
            if r.val < 43 then
              (32#32, 4294967233#32)
            else
              if r.val < 44 then
                (32#32, 1#32)
              else
                (32#32, 65#32)
      else
        if r.val < 49 then
          if r.val < 47 then
            if r.val < 46 then
              (40#32, 4294967231#32)
            else
              (40#32, 4294967295#32)
          else
            if r.val < 48 then
              (40#32, 63#32)
            else
              (40#32, 4294967232#32)
        else
          if r.val < 51 then
            if r.val < 50 then
              (40#32, 0#32)
            else
              (40#32, 64#32)
          else
            if r.val < 52 then
              (40#32, 4294967233#32)
            else
              if r.val < 53 then
                (40#32, 1#32)
              else
                (40#32, 65#32)
    else
      if r.val < 63 then
        if r.val < 58 then
          if r.val < 56 then
            if r.val < 55 then
              (48#32, 4294967231#32)
            else
              (48#32, 4294967295#32)
          else
            if r.val < 57 then
              (48#32, 63#32)
            else
              (48#32, 4294967232#32)
        else
          if r.val < 60 then
            if r.val < 59 then
              (48#32, 0#32)
            else
              (48#32, 64#32)
          else
            if r.val < 61 then
              (48#32, 4294967233#32)
            else
              if r.val < 62 then
                (48#32, 1#32)
              else
                (48#32, 65#32)
      else
        if r.val < 67 then
          if r.val < 65 then
            if r.val < 64 then
              (56#32, 4294967231#32)
            else
              (56#32, 4294967295#32)
          else
            if r.val < 66 then
              (56#32, 63#32)
            else
              (56#32, 4294967232#32)
        else
          if r.val < 69 then
            if r.val < 68 then
              (56#32, 0#32)
            else
              (56#32, 64#32)
          else
            if r.val < 70 then
              (56#32, 4294967233#32)
            else
              if r.val < 71 then
                (56#32, 1#32)
              else
                (56#32, 65#32)
def k0_off5 (k0_t2 : Fin k0_t2_loop.trips) (c0_i32_242 : BitVec 32) (c_m65_i32_266 : BitVec 32) : Fin 3 → Nat :=
  let c3_267 : Index := 3#32
  let c72_i32 : BitVec 32 := 72#32
  let c0_i32_164 : BitVec 32 := 0#32
  let c1_i32_166 : BitVec 32 := 1#32
  let arg19 : BitVec 32 := Scf.iv c0_i32_164 c1_i32_166 k0_t2
  let c64_i32 : BitVec 32 := 64#32
  let v341 : BitVec 32 := Scalar.muli arg19 c64_i32
  let v342 : BitVec 32 := v341
  let v343 : BitVec 32 := Scalar.addi c72_i32 v342
  let v344 : BitVec 32 := Scalar.addi v343 c0_i32_242
  let v403 : BitVec 32 := Scalar.addi v344 c_m65_i32_266
  let v404 : Index := Scalar.indexCast v403
  let c0_268 : Index := 0#32
  ![3, v404.toNat, 0]
def k0_off5_at (r : Fin 72) : BitVec 32 × BitVec 32 :=
  if r.val < 36 then
    if r.val < 18 then
      if r.val < 9 then
        if r.val < 4 then
          if r.val < 2 then
            if r.val < 1 then
              (0#32, 4294967231#32)
            else
              (0#32, 4294967295#32)
          else
            if r.val < 3 then
              (0#32, 63#32)
            else
              (0#32, 4294967232#32)
        else
          if r.val < 6 then
            if r.val < 5 then
              (0#32, 0#32)
            else
              (0#32, 64#32)
          else
            if r.val < 7 then
              (0#32, 4294967233#32)
            else
              if r.val < 8 then
                (0#32, 1#32)
              else
                (0#32, 65#32)
      else
        if r.val < 13 then
          if r.val < 11 then
            if r.val < 10 then
              (8#32, 4294967231#32)
            else
              (8#32, 4294967295#32)
          else
            if r.val < 12 then
              (8#32, 63#32)
            else
              (8#32, 4294967232#32)
        else
          if r.val < 15 then
            if r.val < 14 then
              (8#32, 0#32)
            else
              (8#32, 64#32)
          else
            if r.val < 16 then
              (8#32, 4294967233#32)
            else
              if r.val < 17 then
                (8#32, 1#32)
              else
                (8#32, 65#32)
    else
      if r.val < 27 then
        if r.val < 22 then
          if r.val < 20 then
            if r.val < 19 then
              (16#32, 4294967231#32)
            else
              (16#32, 4294967295#32)
          else
            if r.val < 21 then
              (16#32, 63#32)
            else
              (16#32, 4294967232#32)
        else
          if r.val < 24 then
            if r.val < 23 then
              (16#32, 0#32)
            else
              (16#32, 64#32)
          else
            if r.val < 25 then
              (16#32, 4294967233#32)
            else
              if r.val < 26 then
                (16#32, 1#32)
              else
                (16#32, 65#32)
      else
        if r.val < 31 then
          if r.val < 29 then
            if r.val < 28 then
              (24#32, 4294967231#32)
            else
              (24#32, 4294967295#32)
          else
            if r.val < 30 then
              (24#32, 63#32)
            else
              (24#32, 4294967232#32)
        else
          if r.val < 33 then
            if r.val < 32 then
              (24#32, 0#32)
            else
              (24#32, 64#32)
          else
            if r.val < 34 then
              (24#32, 4294967233#32)
            else
              if r.val < 35 then
                (24#32, 1#32)
              else
                (24#32, 65#32)
  else
    if r.val < 54 then
      if r.val < 45 then
        if r.val < 40 then
          if r.val < 38 then
            if r.val < 37 then
              (32#32, 4294967231#32)
            else
              (32#32, 4294967295#32)
          else
            if r.val < 39 then
              (32#32, 63#32)
            else
              (32#32, 4294967232#32)
        else
          if r.val < 42 then
            if r.val < 41 then
              (32#32, 0#32)
            else
              (32#32, 64#32)
          else
            if r.val < 43 then
              (32#32, 4294967233#32)
            else
              if r.val < 44 then
                (32#32, 1#32)
              else
                (32#32, 65#32)
      else
        if r.val < 49 then
          if r.val < 47 then
            if r.val < 46 then
              (40#32, 4294967231#32)
            else
              (40#32, 4294967295#32)
          else
            if r.val < 48 then
              (40#32, 63#32)
            else
              (40#32, 4294967232#32)
        else
          if r.val < 51 then
            if r.val < 50 then
              (40#32, 0#32)
            else
              (40#32, 64#32)
          else
            if r.val < 52 then
              (40#32, 4294967233#32)
            else
              if r.val < 53 then
                (40#32, 1#32)
              else
                (40#32, 65#32)
    else
      if r.val < 63 then
        if r.val < 58 then
          if r.val < 56 then
            if r.val < 55 then
              (48#32, 4294967231#32)
            else
              (48#32, 4294967295#32)
          else
            if r.val < 57 then
              (48#32, 63#32)
            else
              (48#32, 4294967232#32)
        else
          if r.val < 60 then
            if r.val < 59 then
              (48#32, 0#32)
            else
              (48#32, 64#32)
          else
            if r.val < 61 then
              (48#32, 4294967233#32)
            else
              if r.val < 62 then
                (48#32, 1#32)
              else
                (48#32, 65#32)
      else
        if r.val < 67 then
          if r.val < 65 then
            if r.val < 64 then
              (56#32, 4294967231#32)
            else
              (56#32, 4294967295#32)
          else
            if r.val < 66 then
              (56#32, 63#32)
            else
              (56#32, 4294967232#32)
        else
          if r.val < 69 then
            if r.val < 68 then
              (56#32, 0#32)
            else
              (56#32, 64#32)
          else
            if r.val < 70 then
              (56#32, 4294967233#32)
            else
              if r.val < 71 then
                (56#32, 1#32)
              else
                (56#32, 65#32)
def k0_off6 (k0_t2 : Fin k0_t2_loop.trips) : Fin 2 → Nat :=
  let c0_i32_164 : BitVec 32 := 0#32
  let c1_i32_166 : BitVec 32 := 1#32
  let arg19 : BitVec 32 := Scf.iv c0_i32_164 c1_i32_166 k0_t2
  let c64_i32 : BitVec 32 := 64#32
  let v341 : BitVec 32 := Scalar.muli arg19 c64_i32
  let v342 : BitVec 32 := v341
  let v1353 : Index := Scalar.indexCast v342
  let c128_716 : Index := 128#32
  ![v1353.toNat, 128]
def k0_cond2 (i : grid0.Coords) : BitVec 1 :=
  let arg2 : BitVec 32 := BitVec.ofNat 32 (i 2).val
  let c10_i32 : BitVec 32 := 10#32
  let v338 : BitVec 1 := Scalar.cmpi .eq arg2 c10_i32
  let v339 : BitVec 32 := Scalar.extui v338
  let c0_i32_241 : BitVec 32 := 0#32
  let v340 : BitVec 1 := Scalar.cmpi .ne v339 c0_i32_241
  v340

@[reducible] def k0_t3_loop : Scf.Loop 32 :=
  let c0_i32_242 : BitVec 32 := 0#32
  let c8_i32 : BitVec 32 := 8#32
  let v341 : BitVec 32 := Scalar.addi c0_i32_242 c8_i32
  let c1_i32_243 : BitVec 32 := 1#32
  ⟨c0_i32_242, v341, c1_i32_243⟩
def k0_mult3 (k0_t3 : Fin k0_t3_loop.trips) : BitVec 32 :=
  let c0_i32_242 : BitVec 32 := 0#32
  let c1_i32_243 : BitVec 32 := 1#32
  let arg19 : BitVec 32 := Scf.iv c0_i32_242 c1_i32_243 k0_t3
  let c256_i32 : BitVec 32 := 256#32
  let v342 : BitVec 32 := Scalar.muli arg19 c256_i32
  v342
def k0_off7 (k0_t3 : Fin k0_t3_loop.trips) : Fin 3 → Nat :=
  let c0_245 : Index := 0#32
  let c0_i32_242 : BitVec 32 := 0#32
  let c1_i32_243 : BitVec 32 := 1#32
  let arg19 : BitVec 32 := Scf.iv c0_i32_242 c1_i32_243 k0_t3
  let c256_i32 : BitVec 32 := 256#32
  let v342 : BitVec 32 := Scalar.muli arg19 c256_i32
  let v343 : BitVec 32 := v342
  let v344 : Index := Scalar.indexCast v343
  let c0_246 : Index := 0#32
  ![0, v344.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S9x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S9x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x2048x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x2048x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceIdeal.lean ====
abbrev S8x4096x1024 : Shape := ⟨3, ![8, 4096, 1024]⟩
abbrev S16x1x6144 : Shape := ⟨3, ![16, 1, 6144]⟩
abbrev S1024 : Shape := ⟨1, ![1024]⟩
abbrev S1024x5632 : Shape := ⟨2, ![1024, 5632]⟩
abbrev S3x3x5632 : Shape := ⟨3, ![3, 3, 5632]⟩
abbrev S5632 : Shape := ⟨1, ![5632]⟩
abbrev S2816x1024 : Shape := ⟨2, ![2816, 1024]⟩
abbrev S8x1x1024 : Shape := ⟨3, ![8, 1, 1024]⟩
abbrev S8x4096x5632 : Shape := ⟨3, ![8, 4096, 5632]⟩
abbrev S8x64x64x5632 : Shape := ⟨4, ![8, 64, 64, 5632]⟩
abbrev S_ : Shape := ⟨0, ![]⟩
abbrev S8x66x66x5632 : Shape := ⟨4, ![8, 66, 66, 5632]⟩
abbrev S1x1x5632 : Shape := ⟨3, ![1, 1, 5632]⟩
abbrev S1x1x1x5632 : Shape := ⟨4, ![1, 1, 1, 5632]⟩
abbrev S8x4096x2816 : Shape := ⟨3, ![8, 4096, 2816]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S16x1x6144, .f32⟩
  | .hbm, ⟨3, _⟩ => ⟨S1024, .f32⟩
  | .hbm, ⟨4, _⟩ => ⟨S1024x5632, .bf16⟩
  | .hbm, ⟨5, _⟩ => ⟨S3x3x5632, .f32⟩
  | .hbm, ⟨6, _⟩ => ⟨S5632, .f32⟩
  | .hbm, ⟨7, _⟩ => ⟨S2816x1024, .bf16⟩
  | .hbm, ⟨8, _⟩ => ⟨S8x1x1024, .f32⟩
  | .hbm, ⟨9, _⟩ => ⟨S8x4096x1024, .f32⟩
  | .hbm, ⟨10, _⟩ => ⟨S1024x5632, .f32⟩
  | .hbm, ⟨11, _⟩ => ⟨S8x4096x5632, .f32⟩
  | .hbm, ⟨12, _⟩ => ⟨S8x64x64x5632, .f32⟩
  | .hbm, ⟨13, _⟩ => ⟨S_, .i32⟩
  | .hbm, ⟨14, _⟩ => ⟨S_, .f32⟩
  | .hbm, ⟨15, _⟩ => ⟨S8x66x66x5632, .f32⟩
  | .hbm, ⟨16, _⟩ => ⟨S8x64x64x5632, .f32⟩
  | .hbm, ⟨17, _⟩ => ⟨S1x1x5632, .f32⟩
  | .hbm, ⟨18, _⟩ => ⟨S5632, .f32⟩
  | .hbm, ⟨19, _⟩ => ⟨S1x1x1x5632, .f32⟩
  | .hbm, ⟨20, _⟩ => ⟨S8x64x64x5632, .f32⟩
  | .hbm, ⟨21, _⟩ => ⟨S8x64x64x5632, .f32⟩
  | .hbm, ⟨22, _⟩ => ⟨S1x1x1x5632, .f32⟩
  | .hbm, ⟨23, _⟩ => ⟨S8x64x64x5632, .f32⟩
  | .hbm, ⟨24, _⟩ => ⟨S8x64x64x5632, .f32⟩
  | .hbm, ⟨25, _⟩ => ⟨S8x64x64x5632, .f32⟩
  | .hbm, ⟨26, _⟩ => ⟨S1x1x5632, .f32⟩
  | .hbm, ⟨27, _⟩ => ⟨S5632, .f32⟩
  | .hbm, ⟨28, _⟩ => ⟨S1x1x1x5632, .f32⟩
  | .hbm, ⟨29, _⟩ => ⟨S8x64x64x5632, .f32⟩
  | .hbm, ⟨30, _⟩ => ⟨S8x64x64x5632, .f32⟩
  | .hbm, ⟨31, _⟩ => ⟨S8x64x64x5632, .f32⟩
  | .hbm, ⟨32, _⟩ => ⟨S8x64x64x5632, .f32⟩
  | .hbm, ⟨33, _⟩ => ⟨S1x1x5632, .f32⟩
  | .hbm, ⟨34, _⟩ => ⟨S5632, .f32⟩
  | .hbm, ⟨35, _⟩ => ⟨S1x1x1x5632, .f32⟩
  | .hbm, ⟨36, _⟩ => ⟨S8x64x64x5632, .f32⟩
  | .hbm, ⟨37, _⟩ => ⟨S8x64x64x5632, .f32⟩
  | .hbm, ⟨38, _⟩ => ⟨S8x64x64x5632, .f32⟩
  | .hbm, ⟨39, _⟩ => ⟨S8x64x64x5632, .f32⟩
  | .hbm, ⟨40, _⟩ => ⟨S1x1x5632, .f32⟩
  | .hbm, ⟨41, _⟩ => ⟨S5632, .f32⟩
  | .hbm, ⟨42, _⟩ => ⟨S1x1x1x5632, .f32⟩
  | .hbm, ⟨43, _⟩ => ⟨S8x64x64x5632, .f32⟩
  | .hbm, ⟨44, _⟩ => ⟨S8x64x64x5632, .f32⟩
  | .hbm, ⟨45, _⟩ => ⟨S8x64x64x5632, .f32⟩
  | .hbm, ⟨46, _⟩ => ⟨S8x64x64x5632, .f32⟩
  | .hbm, ⟨47, _⟩ => ⟨S1x1x5632, .f32⟩
  | .hbm, ⟨48, _⟩ => ⟨S5632, .f32⟩
  | .hbm, ⟨49, _⟩ => ⟨S1x1x1x5632, .f32⟩
  | .hbm, ⟨50, _⟩ => ⟨S8x64x64x5632, .f32⟩
  | .hbm, ⟨51, _⟩ => ⟨S8x64x64x5632, .f32⟩
  | .hbm, ⟨52, _⟩ => ⟨S8x64x64x5632, .f32⟩
  | .hbm, ⟨53, _⟩ => ⟨S8x64x64x5632, .f32⟩
  | .hbm, ⟨54, _⟩ => ⟨S1x1x5632, .f32⟩
  | .hbm, ⟨55, _⟩ => ⟨S5632, .f32⟩
  | .hbm, ⟨56, _⟩ => ⟨S1x1x1x5632, .f32⟩
  | .hbm, ⟨57, _⟩ => ⟨S8x64x64x5632, .f32⟩
  | .hbm, ⟨58, _⟩ => ⟨S8x64x64x5632, .f32⟩
  | .hbm, ⟨59, _⟩ => ⟨S8x64x64x5632, .f32⟩
  | .hbm, ⟨60, _⟩ => ⟨S8x64x64x5632, .f32⟩
  | .hbm, ⟨61, _⟩ => ⟨S1x1x5632, .f32⟩
  | .hbm, ⟨62, _⟩ => ⟨S5632, .f32⟩
  | .hbm, ⟨63, _⟩ => ⟨S1x1x1x5632, .f32⟩
  | .hbm, ⟨64, _⟩ => ⟨S8x64x64x5632, .f32⟩
  | .hbm, ⟨65, _⟩ => ⟨S8x64x64x5632, .f32⟩
  | .hbm, ⟨66, _⟩ => ⟨S8x64x64x5632, .f32⟩
  | .hbm, ⟨67, _⟩ => ⟨S8x64x64x5632, .f32⟩
  | .hbm, ⟨68, _⟩ => ⟨S1x1x5632, .f32⟩
  | .hbm, ⟨69, _⟩ => ⟨S5632, .f32⟩
  | .hbm, ⟨70, _⟩ => ⟨S1x1x1x5632, .f32⟩
  | .hbm, ⟨71, _⟩ => ⟨S8x64x64x5632, .f32⟩
  | .hbm, ⟨72, _⟩ => ⟨S8x64x64x5632, .f32⟩
  | .hbm, ⟨73, _⟩ => ⟨S8x64x64x5632, .f32⟩
  | .hbm, ⟨74, _⟩ => ⟨S8x64x64x5632, .f32⟩
  | .hbm, ⟨75, _⟩ => ⟨S1x1x5632, .f32⟩
  | .hbm, ⟨76, _⟩ => ⟨S5632, .f32⟩
  | .hbm, ⟨77, _⟩ => ⟨S1x1x1x5632, .f32⟩
  | .hbm, ⟨78, _⟩ => ⟨S8x64x64x5632, .f32⟩
  | .hbm, ⟨79, _⟩ => ⟨S8x64x64x5632, .f32⟩
  | .hbm, ⟨80, _⟩ => ⟨S8x64x64x5632, .f32⟩
  | .hbm, ⟨81, _⟩ => ⟨S8x4096x5632, .f32⟩
  | .hbm, ⟨82, _⟩ => ⟨S8x4096x2816, .f32⟩
  | .hbm, ⟨83, _⟩ => ⟨S8x4096x2816, .f32⟩
  | .hbm, ⟨84, _⟩ => ⟨S8x4096x2816, .f32⟩
  | .hbm, ⟨85, _⟩ => ⟨S8x4096x2816, .f32⟩
  | .hbm, ⟨86, _⟩ => ⟨S_, .f32⟩
  | .hbm, ⟨87, _⟩ => ⟨S8x4096x2816, .f32⟩
  | .hbm, ⟨88, _⟩ => ⟨S8x4096x2816, .f32⟩
  | .hbm, ⟨89, _⟩ => ⟨S8x4096x2816, .f32⟩
  | .hbm, ⟨90, _⟩ => ⟨S_, .f32⟩
  | .hbm, ⟨91, _⟩ => ⟨S8x4096x2816, .f32⟩
  | .hbm, ⟨92, _⟩ => ⟨S8x4096x2816, .f32⟩
  | .hbm, ⟨93, _⟩ => ⟨S8x4096x2816, .f32⟩
  | .hbm, ⟨94, _⟩ => ⟨S_, .f32⟩
  | .hbm, ⟨95, _⟩ => ⟨S8x4096x2816, .f32⟩
  | .hbm, ⟨96, _⟩ => ⟨S8x4096x2816, .f32⟩
  | .hbm, ⟨97, _⟩ => ⟨S_, .f32⟩
  | .hbm, ⟨98, _⟩ => ⟨S8x4096x2816, .f32⟩
  | .hbm, ⟨99, _⟩ => ⟨S8x4096x2816, .f32⟩
  | .hbm, ⟨100, _⟩ => ⟨S8x4096x2816, .f32⟩
  | .hbm, ⟨101, _⟩ => ⟨S8x4096x2816, .f32⟩
  | .hbm, ⟨102, _⟩ => ⟨S2816x1024, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | .hbm, ⟨108, _⟩ => ⟨S_, .f32⟩
  | .hbm, ⟨109, _⟩ => ⟨S8x4096, .f32⟩
  | .hbm, ⟨110, _⟩ => ⟨S8x4096x1, .f32⟩
  | .hbm, ⟨111, _⟩ => ⟨S_, .f32⟩
  | .hbm, ⟨112, _⟩ => ⟨S8x4096x1, .f32⟩
  | .hbm, ⟨113, _⟩ => ⟨S8x4096x1, .f32⟩
  | .hbm, ⟨114, _⟩ => ⟨S_, .f32⟩
  | .hbm, ⟨115, _⟩ => ⟨S8x4096x1, .f32⟩
  | .hbm, ⟨116, _⟩ => ⟨S8x4096x1, .f32⟩
  | .hbm, ⟨117, _⟩ => ⟨S8x4096x1, .f32⟩
  | .hbm, ⟨118, _⟩ => ⟨S8x4096x1024, .f32⟩
  | .hbm, ⟨119, _⟩ => ⟨S8x4096x1024, .f32⟩
  | .hbm, ⟨120, _⟩ => ⟨S1x1x1024, .f32⟩
  | .hbm, ⟨121, _⟩ => ⟨S8x4096x1024, .f32⟩
  | .hbm, ⟨122, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_0 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_cst_1 : Ref sig .tc := ⟨.hbm, 94, rfl⟩
abbrev main_v82 : Ref sig .tc := ⟨.hbm, 95, rfl⟩
abbrev main_v83 : Ref sig .tc := ⟨.hbm, 96, rfl⟩
abbrev main_cst_2 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_3 : Ref sig .tc := ⟨.hbm, 108, rfl⟩
abbrev main_v94 : Ref sig .tc := ⟨.hbm, 109, rfl⟩
abbrev main_v95 : Ref sig .tc := ⟨.hbm, 110, rfl⟩
abbrev main_cst_4 : Ref sig .tc := ⟨.hbm, 111, rfl⟩
abbrev main_v96 : Ref sig .tc := ⟨.hbm, 112, rfl⟩
abbrev main_v97 : Ref sig .tc := ⟨.hbm, 113, rfl⟩
abbrev main_cst_5 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩

abbrev nD : Nat := 1
abbrev τ : Topo := Topo.v7x

variable {F : FTy → Type} [FloatOps F]
-- ==== Kernel2.lean ====
abbrev S8x4096x512 : Shape := ⟨3, ![8, 4096, 512]⟩
abbrev S8x4096x1024 : Shape := ⟨3, ![8, 4096, 1024]⟩
abbrev S8x4096x2048 : Shape := ⟨3, ![8, 4096, 2048]⟩
abbrev S16x1x6144 : Shape := ⟨3, ![16, 1, 6144]⟩
abbrev S1024 : Shape := ⟨1, ![1024]⟩
abbrev S1024x1024 : Shape := ⟨2, ![1024, 1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 28
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x4096x1024, .bf16⟩
  | .hbm, ⟨4, _⟩ => ⟨S8x4096x2048, .bf16⟩
  | .hbm, ⟨5, _⟩ => ⟨S8x4096x1024, .f32⟩
  | .hbm, ⟨6, _⟩ => ⟨S16x1x6144, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S8x4096x1024, .f32⟩
  | .hbm, ⟨13, _⟩ => ⟨S8x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x512x1024, .f32⟩
  | .local _ .vmem, ⟨25, _⟩ => ⟨S1x512x1024, .f32⟩
  | .local _ .vmem, ⟨26, _⟩ => ⟨S1x512x1024, .bf16⟩
  | .local _ .vmem, ⟨27, _⟩ => ⟨S1x512x1024, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x4096x512 : Shape := ⟨3, ![8, 4096, 512]⟩
abbrev S8x4096x1024 : Shape := ⟨3, ![8, 4096, 1024]⟩
abbrev S8x4096x2048 : Shape := ⟨3, ![8, 4096, 2048]⟩
abbrev S16x1x6144 : Shape := ⟨3, ![16, 1, 6144]⟩
abbrev S1024 : Shape := ⟨1, ![1024]⟩
abbrev S1024x1024 : Shape := ⟨2, ![1024, 1024]⟩
abbrev S8x1x1024 : Shape := ⟨3, ![8, 1, 1024]⟩
abbrev S512x1024 : Shape := ⟨2, ![512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x4096x1024, .bf16⟩
  | .hbm, ⟨4, _⟩ => ⟨S8x4096x2048, .bf16⟩
  | .hbm, ⟨5, _⟩ => ⟨S8x4096x1024, .f32⟩
  | .hbm, ⟨6, _⟩ => ⟨S16x1x6144, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x4096x512, .f32⟩
  | .hbm, ⟨15, _⟩ => ⟨S512x1024, .bf16⟩
  | .hbm, ⟨16, _⟩ => ⟨S512x1024, .f32⟩
  | .hbm, ⟨17, _⟩ => ⟨S8x4096x1024, .f32⟩
  | .hbm, ⟨18, _⟩ => ⟨S8x4096x512, .f32⟩
  | .hbm, ⟨19, _⟩ => ⟨S512x1024, .bf16⟩
  | .hbm, ⟨20, _⟩ => ⟨S512x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S1024x1024, .f32⟩
  | .hbm, ⟨43, _⟩ => ⟨S8x4096x1024, .f32⟩
  | .hbm, ⟨44, _⟩ => ⟨S8x4096x2048, .f32⟩
  | .hbm, ⟨45, _⟩ => ⟨S8x4096x2048, .f32⟩
  | .hbm, ⟨46, _⟩ => ⟨S8x4096x2048, .f32⟩
  | .hbm, ⟨47, _⟩ => ⟨S_, .f32⟩
  | .hbm, ⟨48, _⟩ => ⟨S8x4096x2048, .f32⟩
  | .hbm, ⟨49, _⟩ => ⟨S8x4096x2048, .f32⟩
  | .hbm, ⟨50, _⟩ => ⟨S_, .f32⟩
  | .hbm, ⟨51, _⟩ => ⟨S8x4096x2048, .f32⟩
  | .hbm, ⟨52, _⟩ => ⟨S8x4096x2048, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S1024x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S_, .f32⟩
  | .hbm, ⟨80, _⟩ => ⟨S8x1x1024, .f32⟩
  | .hbm, ⟨81, _⟩ => ⟨S8x1x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel3.lean ====
abbrev S8x4096x1024 : Shape := ⟨3, ![8, 4096, 1024]⟩
abbrev S16x1x6144 : Shape := ⟨3, ![16, 1, 6144]⟩
abbrev S1024 : Shape := ⟨1, ![1024]⟩
abbrev S1024x512 : Shape := ⟨2, ![1024, 512]⟩
abbrev S1024x1024 : Shape := ⟨2, ![1024, 1024]⟩
abbrev S1024x2048 : Shape := ⟨2, ![1024, 2048]⟩
abbrev S1x1024 : Shape := ⟨2, ![1, 1024]⟩
abbrev S8x4096x512 : Shape := ⟨3, ![8, 4096, 512]⟩
abbrev S8x4096x2048 : Shape := ⟨3, ![8, 4096, 2048]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x2048 : Shape := ⟨2, ![512, 2048]⟩

abbrev nBuf : Space → Nat
  | .hbm => 12
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1024, .f32⟩
  | .hbm, ⟨3, _⟩ => ⟨S1024x512, .bf16⟩
  | .hbm, ⟨4, _⟩ => ⟨S1024x1024, .bf16⟩
  | .hbm, ⟨5, _⟩ => ⟨S1024x1024, .bf16⟩
  | .hbm, ⟨6, _⟩ => ⟨S1024x2048, .bf16⟩
  | .hbm, ⟨7, _⟩ => ⟨S1x1024, .f32⟩
  | .hbm, ⟨8, _⟩ => ⟨S8x4096x512, .f32⟩
  | .hbm, ⟨9, _⟩ => ⟨S8x4096x1024, .f32⟩
  | .hbm, ⟨10, _⟩ => ⟨S8x4096x1024, .bf16⟩
  | .hbm, ⟨11, _⟩ => ⟨S8x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | .local _ .vmem, ⟨11, _⟩ => ⟨S1x512x512, .f32⟩
  | .local _ .vmem, ⟨12, _⟩ => ⟨S1x512x512, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x2048, .bf16⟩
  | .local _ .vmem, ⟨18, _⟩ => ⟨S1x512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x4096x1024 : Shape := ⟨3, ![8, 4096, 1024]⟩
abbrev S16x1x6144 : Shape := ⟨3, ![16, 1, 6144]⟩
abbrev S1024 : Shape := ⟨1, ![1024]⟩
abbrev S1024x512 : Shape := ⟨2, ![1024, 512]⟩
abbrev S1024x1024 : Shape := ⟨2, ![1024, 1024]⟩
abbrev S1024x2048 : Shape := ⟨2, ![1024, 2048]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x512 : Shape := ⟨3, ![8, 4096, 512]⟩
abbrev S8x4096x2048 : Shape := ⟨3, ![8, 4096, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1024, .f32⟩
  | .hbm, ⟨3, _⟩ => ⟨S1024x512, .bf16⟩
  | .hbm, ⟨4, _⟩ => ⟨S1024x1024, .bf16⟩
  | .hbm, ⟨5, _⟩ => ⟨S1024x1024, .bf16⟩
  | .hbm, ⟨6, _⟩ => ⟨S1024x2048, .bf16⟩
  | .hbm, ⟨7, _⟩ => ⟨S8x1x1024, .f32⟩
  | .hbm, ⟨8, _⟩ => ⟨S8x1x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S1024x512, .f32⟩
  | .hbm, ⟨33, _⟩ => ⟨S8x4096x512, .f32⟩
  | .hbm, ⟨34, _⟩ => ⟨S1024x1024, .f32⟩
  | .hbm, ⟨35, _⟩ => ⟨S8x4096x1024, .f32⟩
  | .hbm, ⟨36, _⟩ => ⟨S1024x1024, .f32⟩
  | .hbm, ⟨37, _⟩ => ⟨S8x4096x1024, .f32⟩
  | .hbm, ⟨38, _⟩ => ⟨S1024x2048, .f32⟩
  | .hbm, ⟨39, _⟩ => ⟨S8x4096x2048, .f32⟩
  | .hbm, ⟨40, _⟩ => ⟨S8x4096x1024, .bf16⟩
  | .hbm, ⟨41, _⟩ => ⟨S8x4096x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.KernelKit.lean ====
module

public import proofs.«01_k».proof.Proof.Gen.Kernel.Frame
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Ffn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments unchanged, of any run to the end of the launch that states them so. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 2 rfl).trans ((hA c 2).trans (V_main_arg0 m c)),
      (Pipeline.RDat.FramePost.arr_in h c 10 rfl).trans ((hA c 10).trans (V_main_arg1 m c)),
      (Pipeline.RDat.FramePost.arr_in h c 11 rfl).trans ((hA c 11).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 9 rfl).trans ((hA c 9).trans (V_main_arg7 m c))⟩) h

abbrev cond0_0 (i : grid0.Coords) : Prop := (Scalar.cmpi .ne (Scalar.extui (Scalar.cmpi .eq (BitVec.ofNat 32 (i 2).val) 0#32)) 0#32) = 1#1

/-- The first branch is taken at the first block of columns, -/
theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 11 % 2 := Pipeline.Grid.coords_val t 1 (by decide) rfl
    have e2 : (grid0.coords t 2).val = t.val / 1 % 11 := Pipeline.Grid.coords_val t 2 (by decide) rfl
    simp only [cond0_0, e0, e1, e2]
    word_cmp
   : ∀ t : Fin grid0.N, cond0_0 (grid0.coords t) ↔ t.val % 11 = 0)

abbrev cond0_1 (i : grid0.Coords) : Prop := k0_cond2 i = 1#1

/-- and the last one at the last block. -/
theorem hcond0_1 : ∀ t : Fin cfg0.N, cond0_1 (grid0.coords t) ↔ t.val % 11 = 10 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 11 % 2 := Pipeline.Grid.coords_val t 1 (by decide) rfl
    have e2 : (grid0.coords t 2).val = t.val / 1 % 11 := Pipeline.Grid.coords_val t 2 (by decide) rfl
    simp only [cond0_1, k0_cond2, e0, e1, e2]
    word_cmp
   : ∀ t : Fin grid0.N, cond0_1 (grid0.coords t) ↔ t.val % 11 = 10)

abbrev ms0_0 (t : Fin cfg0.N) : Memref sig .tc .vmem S1x64x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S9x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2048x1024 .f32 := win0_13.stage (cfg0.slots t 13)
abbrev hs0_13 (t : Fin cfg0.N) : (ms0_13 t).IsWhole := hstage0_13 ((cfg0.slots t 13).cast nbuf0_13)

abbrev scM0_0 : Memref sig .tc .vmem S4x2192x128 .f32 := Memref.whole cc0_scratch0
abbrev scM0_1 : Memref sig .tc .vmem S2048x256 .bf16 := Memref.whole cc0_scratch1

abbrev VS0_0 : View sig .tc .vmem S4x2192x128 .f32 := scM0_0.view

/-- The scratch buffers as memory owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Ffn

end
-- ==== Proof.KernelRunA.lean ====
module

public import proofs.«01_k».proof.Proof.KernelKit

@[expose] public section

set_option maxRecDepth 16384

noncomputable section

namespace Cert.Kernel.Ffn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1116000 in

/-- The body at the first block of columns, on any buffers: it runs, and what it leaves in the first scratch buffer is found by running it. -/
noncomputable def kernelRun0_A (c : Dev nD) (i : grid0.Coords) (arg3 : Memref sig .tc .vmem S1x64x1024 .bf16) (harg3 : arg3.IsWhole) (arg4 : Memref sig .tc .vmem S1x2048x1024 .bf16) (harg4 : arg4.IsWhole) (arg5 : Memref sig .tc .vmem S1x64x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S9x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .bf16) (harg12 : arg12.IsWhole) (arg13 : Memref sig .tc .vmem S1x2048x1024 .f32) (harg13 : arg13.IsWhole) (arg14 : Memref sig .tc .vmem S1x1x1024 .f32) (harg14 : arg14.IsWhole) (arg15 : Memref sig .tc .vmem S1x1024 .f32) (harg15 : arg15.IsWhole) (arg16 : Memref sig .tc .vmem S1x2048x1024 .f32) (harg16 : arg16.IsWhole) (arg17 : Memref sig .tc .vmem S4x2192x128 .f32) (harg17 : arg17.IsWhole) (arg18 : Memref sig .tc .vmem S2048x256 .bf16) (harg18 : arg18.IsWhole) (hc0 : cond0_0 i) (hc1 : ¬cond0_1 i)
    (x0 : Vec F S1x64x1024 .bf16) (x1 : Vec F S1x2048x1024 .bf16) (x2 : Vec F S1x64x1024 .bf16) (x3 : Vec F S1024x256 .bf16) (x4 : Vec F S1024x256 .bf16) (x5 : Vec F S9x256 .f32) (x6 : Vec F S9x256 .f32) (x7 : Vec F S1x256 .f32) (x8 : Vec F S1x256 .f32) (x9 : Vec F S256x1024 .bf16) (x10 : Vec F S1x2048x1024 .f32) (x11 : Vec F S1x1x1024 .f32) (x12 : Vec F S1x1024 .f32) :
    { LS0 : List (View.Piece (Elt F) S4x2192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ f, arg17.view.loc (c : Thread nD τ) ↦[arg17.view.set]{fullShare} arg17.view.writes (Elt F) f LS0) ∗ (∃ d, owns (c : Thread nD τ) arg18 fullShare d)) -∗ K ⟨⟩))
          ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_conv_ffn_eq_skeleton]; unfold cc0_conv_ffn_skel
    simp only [k0_part52_eq_skeleton, k0_part1_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _, _; isplitr; swap; · iexact H13
      ipureintro; rfl
    isplitl [HS0]; · iexists _; iexact HS0
    iexists _, _; isplitr; swap; · iexact HS1
    ipureintro; rfl

end Cert.Kernel.Ffn

end
-- ==== Proof.KernelRunB.lean ====
module

public import proofs.«01_k».proof.Proof.KernelRunA

@[expose] public section

set_option maxRecDepth 16384

noncomputable section

namespace Cert.Kernel.Ffn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1004000 in

/-- The body at a middle block of columns. -/
noncomputable def kernelRun0_B (c : Dev nD) (i : grid0.Coords) (arg3 : Memref sig .tc .vmem S1x64x1024 .bf16) (harg3 : arg3.IsWhole) (arg4 : Memref sig .tc .vmem S1x2048x1024 .bf16) (harg4 : arg4.IsWhole) (arg5 : Memref sig .tc .vmem S1x64x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S9x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .bf16) (harg12 : arg12.IsWhole) (arg13 : Memref sig .tc .vmem S1x2048x1024 .f32) (harg13 : arg13.IsWhole) (arg14 : Memref sig .tc .vmem S1x1x1024 .f32) (harg14 : arg14.IsWhole) (arg15 : Memref sig .tc .vmem S1x1024 .f32) (harg15 : arg15.IsWhole) (arg16 : Memref sig .tc .vmem S1x2048x1024 .f32) (harg16 : arg16.IsWhole) (arg17 : Memref sig .tc .vmem S4x2192x128 .f32) (harg17 : arg17.IsWhole) (arg18 : Memref sig .tc .vmem S2048x256 .bf16) (harg18 : arg18.IsWhole) (hc0 : ¬cond0_0 i) (hc1 : ¬cond0_1 i)
    (x0 : Vec F S1x64x1024 .bf16) (x1 : Vec F S1x2048x1024 .bf16) (x2 : Vec F S1x64x1024 .bf16) (x3 : Vec F S1024x256 .bf16) (x4 : Vec F S1024x256 .bf16) (x5 : Vec F S9x256 .f32) (x6 : Vec F S9x256 .f32) (x7 : Vec F S1x256 .f32) (x8 : Vec F S1x256 .f32) (x9 : Vec F S256x1024 .bf16) (x10 : Vec F S1x2048x1024 .f32) (x11 : Vec F S1x1x1024 .f32) (x12 : Vec F S1x1024 .f32) (xs0 : Vec F S4x2192x128 .f32) :
    { LS0 : List (View.Piece (Elt F) S4x2192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ owns (c : Thread nD τ) arg17 fullShare xs0 ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (arg17.view.loc (c : Thread nD τ) ↦[arg17.view.set]{fullShare} arg17.view.writes (Elt F) (harg17.unread xs0) LS0) ∗ (∃ d, owns (c : Thread nD τ) arg18 fullShare d)) -∗ K ⟨⟩))
          ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_conv_ffn_eq_skeleton]; unfold cc0_conv_ffn_skel
    simp only [k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg17.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _, _; isplitr; swap; · iexact H13
      ipureintro; rfl
    isplitl [HS0]; · iexact HS0
    iexists _, _; isplitr; swap; · iexact HS1
    ipureintro; rfl

end Cert.Kernel.Ffn

end
-- ==== Proof.KernelRunC.lean ====
module

public import proofs.«01_k».proof.Proof.KernelRunB

@[expose] public section

set_option maxRecDepth 16384

noncomputable section

namespace Cert.Kernel.Ffn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1092000 in

/-- The body at the last block of columns. -/
noncomputable def kernelRun0_C (c : Dev nD) (i : grid0.Coords) (arg3 : Memref sig .tc .vmem S1x64x1024 .bf16) (harg3 : arg3.IsWhole) (arg4 : Memref sig .tc .vmem S1x2048x1024 .bf16) (harg4 : arg4.IsWhole) (arg5 : Memref sig .tc .vmem S1x64x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S9x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .bf16) (harg12 : arg12.IsWhole) (arg13 : Memref sig .tc .vmem S1x2048x1024 .f32) (harg13 : arg13.IsWhole) (arg14 : Memref sig .tc .vmem S1x1x1024 .f32) (harg14 : arg14.IsWhole) (arg15 : Memref sig .tc .vmem S1x1024 .f32) (harg15 : arg15.IsWhole) (arg16 : Memref sig .tc .vmem S1x2048x1024 .f32) (harg16 : arg16.IsWhole) (arg17 : Memref sig .tc .vmem S4x2192x128 .f32) (harg17 : arg17.IsWhole) (arg18 : Memref sig .tc .vmem S2048x256 .bf16) (harg18 : arg18.IsWhole) (hc0 : ¬cond0_0 i) (hc1 : cond0_1 i)
    (x0 : Vec F S1x64x1024 .bf16) (x1 : Vec F S1x2048x1024 .bf16) (x2 : Vec F S1x64x1024 .bf16) (x3 : Vec F S1024x256 .bf16) (x4 : Vec F S1024x256 .bf16) (x5 : Vec F S9x256 .f32) (x6 : Vec F S9x256 .f32) (x7 : Vec F S1x256 .f32) (x8 : Vec F S1x256 .f32) (x9 : Vec F S256x1024 .bf16) (x10 : Vec F S1x2048x1024 .f32) (x11 : Vec F S1x1x1024 .f32) (x12 : Vec F S1x1024 .f32) (xs0 : Vec F S4x2192x128 .f32) :
    { LS0 : List (View.Piece (Elt F) S4x2192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ owns (c : Thread nD τ) arg17 fullShare xs0 ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (arg17.view.loc (c : Thread nD τ) ↦[arg17.view.set]{fullShare} arg17.view.writes (Elt F) (harg17.unread xs0) LS0) ∗ (∃ d, owns (c : Thread nD τ) arg18 fullShare d)) -∗ K ⟨⟩))
          ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_conv_ffn_eq_skeleton]; unfold cc0_conv_ffn_skel
    simp only [k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg17.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _, _; isplitr; swap; · iexact H13
      ipureintro; rfl
    isplitl [HS0]; · iexact HS0
    iexists _, _; isplitr; swap; · iexact HS1
    ipureintro; rfl

end Cert.Kernel.Ffn

end
-- ==== Proof.KernelFrame.lean ====
module

public import proofs.«01_k».proof.Proof.KernelRunC
public import Idealize.ShloMosaic.Lib.Claim

@[expose] public section

set_option maxRecDepth 16384

noncomputable section

namespace Cert.Kernel.Ffn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first block of columns the body writes the first scratch buffer whole. -/
theorem scover0_A_0 (c : Dev nD) (i : grid0.Coords) (arg3 : Memref sig .tc .vmem S1x64x1024 .bf16) (harg3 : arg3.IsWhole) (arg4 : Memref sig .tc .vmem S1x2048x1024 .bf16) (harg4 : arg4.IsWhole) (arg5 : Memref sig .tc .vmem S1x64x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S9x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .bf16) (harg12 : arg12.IsWhole) (arg13 : Memref sig .tc .vmem S1x2048x1024 .f32) (harg13 : arg13.IsWhole) (arg14 : Memref sig .tc .vmem S1x1x1024 .f32) (harg14 : arg14.IsWhole) (arg15 : Memref sig .tc .vmem S1x1024 .f32) (harg15 : arg15.IsWhole) (arg16 : Memref sig .tc .vmem S1x2048x1024 .f32) (harg16 : arg16.IsWhole) (arg17 : Memref sig .tc .vmem S4x2192x128 .f32) (harg17 : arg17.IsWhole) (arg18 : Memref sig .tc .vmem S2048x256 .bf16) (harg18 : arg18.IsWhole) (hc0 : cond0_0 i) (hc1 : ¬cond0_1 i)
    (x0 : Vec F S1x64x1024 .bf16) (x1 : Vec F S1x2048x1024 .bf16) (x2 : Vec F S1x64x1024 .bf16) (x3 : Vec F S1024x256 .bf16) (x4 : Vec F S1024x256 .bf16) (x5 : Vec F S9x256 .f32) (x6 : Vec F S9x256 .f32) (x7 : Vec F S1x256 .f32) (x8 : Vec F S1x256 .f32) (x9 : Vec F S256x1024 .bf16) (x10 : Vec F S1x2048x1024 .f32) (x11 : Vec F S1x1x1024 .f32) (x12 : Vec F S1x1024 .f32) (y : S4x2192x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).1 ![1, 8, 128] (by sl_kernel_rfl) y

def sout0_A_0 (c : Dev nD) (i : grid0.Coords) (arg3 : Memref sig .tc .vmem S1x64x1024 .bf16) (harg3 : arg3.IsWhole) (arg4 : Memref sig .tc .vmem S1x2048x1024 .bf16) (harg4 : arg4.IsWhole) (arg5 : Memref sig .tc .vmem S1x64x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S9x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .bf16) (harg12 : arg12.IsWhole) (arg13 : Memref sig .tc .vmem S1x2048x1024 .f32) (harg13 : arg13.IsWhole) (arg14 : Memref sig .tc .vmem S1x1x1024 .f32) (harg14 : arg14.IsWhole) (arg15 : Memref sig .tc .vmem S1x1024 .f32) (harg15 : arg15.IsWhole) (arg16 : Memref sig .tc .vmem S1x2048x1024 .f32) (harg16 : arg16.IsWhole) (arg17 : Memref sig .tc .vmem S4x2192x128 .f32) (harg17 : arg17.IsWhole) (arg18 : Memref sig .tc .vmem S2048x256 .bf16) (harg18 : arg18.IsWhole) (hc0 : cond0_0 i) (hc1 : ¬cond0_1 i)
    (x0 : Vec F S1x64x1024 .bf16) (x1 : Vec F S1x2048x1024 .bf16) (x2 : Vec F S1x64x1024 .bf16) (x3 : Vec F S1024x256 .bf16) (x4 : Vec F S1024x256 .bf16) (x5 : Vec F S9x256 .f32) (x6 : Vec F S9x256 .f32) (x7 : Vec F S1x256 .f32) (x8 : Vec F S1x256 .f32) (x9 : Vec F S256x1024 .bf16) (x10 : Vec F S1x2048x1024 .f32) (x11 : Vec F S1x1x1024 .f32) (x12 : Vec F S1x1024 .f32) : Vec F S4x2192x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).1)

def sout0_B_0 (c : Dev nD) (i : grid0.Coords) (arg3 : Memref sig .tc .vmem S1x64x1024 .bf16) (harg3 : arg3.IsWhole) (arg4 : Memref sig .tc .vmem S1x2048x1024 .bf16) (harg4 : arg4.IsWhole) (arg5 : Memref sig .tc .vmem S1x64x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S9x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .bf16) (harg12 : arg12.IsWhole) (arg13 : Memref sig .tc .vmem S1x2048x1024 .f32) (harg13 : arg13.IsWhole) (arg14 : Memref sig .tc .vmem S1x1x1024 .f32) (harg14 : arg14.IsWhole) (arg15 : Memref sig .tc .vmem S1x1024 .f32) (harg15 : arg15.IsWhole) (arg16 : Memref sig .tc .vmem S1x2048x1024 .f32) (harg16 : arg16.IsWhole) (arg17 : Memref sig .tc .vmem S4x2192x128 .f32) (harg17 : arg17.IsWhole) (arg18 : Memref sig .tc .vmem S2048x256 .bf16) (harg18 : arg18.IsWhole) (hc0 : ¬cond0_0 i) (hc1 : ¬cond0_1 i)
    (x0 : Vec F S1x64x1024 .bf16) (x1 : Vec F S1x2048x1024 .bf16) (x2 : Vec F S1x64x1024 .bf16) (x3 : Vec F S1024x256 .bf16) (x4 : Vec F S1024x256 .bf16) (x5 : Vec F S9x256 .f32) (x6 : Vec F S9x256 .f32) (x7 : Vec F S1x256 .f32) (x8 : Vec F S1x256 .f32) (x9 : Vec F S256x1024 .bf16) (x10 : Vec F S1x2048x1024 .f32) (x11 : Vec F S1x1x1024 .f32) (x12 : Vec F S1x1024 .f32) (xs0 : Vec F S4x2192x128 .f32) : Vec F S4x2192x128 .f32 :=
  arg17.view.read (Elt F) (arg17.view.writes (Elt F) (harg17.unread xs0) (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1)

def sout0_C_0 (c : Dev nD) (i : grid0.Coords) (arg3 : Memref sig .tc .vmem S1x64x1024 .bf16) (harg3 : arg3.IsWhole) (arg4 : Memref sig .tc .vmem S1x2048x1024 .bf16) (harg4 : arg4.IsWhole) (arg5 : Memref sig .tc .vmem S1x64x1024 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S9x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .bf16) (harg12 : arg12.IsWhole) (arg13 : Memref sig .tc .vmem S1x2048x1024 .f32) (harg13 : arg13.IsWhole) (arg14 : Memref sig .tc .vmem S1x1x1024 .f32) (harg14 : arg14.IsWhole) (arg15 : Memref sig .tc .vmem S1x1024 .f32) (harg15 : arg15.IsWhole) (arg16 : Memref sig .tc .vmem S1x2048x1024 .f32) (harg16 : arg16.IsWhole) (arg17 : Memref sig .tc .vmem S4x2192x128 .f32) (harg17 : arg17.IsWhole) (arg18 : Memref sig .tc .vmem S2048x256 .bf16) (harg18 : arg18.IsWhole) (hc0 : ¬cond0_0 i) (hc1 : cond0_1 i)
    (x0 : Vec F S1x64x1024 .bf16) (x1 : Vec F S1x2048x1024 .bf16) (x2 : Vec F S1x64x1024 .bf16) (x3 : Vec F S1024x256 .bf16) (x4 : Vec F S1024x256 .bf16) (x5 : Vec F S9x256 .f32) (x6 : Vec F S9x256 .f32) (x7 : Vec F S1x256 .f32) (x8 : Vec F S1x256 .f32) (x9 : Vec F S256x1024 .bf16) (x10 : Vec F S1x2048x1024 .f32) (x11 : Vec F S1x1x1024 .f32) (x12 : Vec F S1x1024 .f32) (xs0 : Vec F S4x2192x128 .f32) : Vec F S4x2192x128 .f32 :=
  arg17.view.read (Elt F) (arg17.view.writes (Elt F) (harg17.unread xs0) (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1)

/-- What the first scratch buffer holds after each point. -/
def outsAt0 (c : Dev nD) : (n : ℕ) → n < cfg0.N → Vec F S4x2192x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩)
  | n + 1, hn =>
    if h0 : (n + 1) % 11 = 0 then
      if h1 : (n + 1) % 11 = 10 then
        False.elim (by have hN : n + 1 < 176 := lt_of_lt_of_eq hn (show cfg0.N = 176 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩)
    else
      if h1 : (n + 1) % 11 = 10 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn))

theorem outsAt0_A (c : Dev nD) (t : Fin cfg0.N) (h0 : t.val % 11 = 0) (h1 : ¬t.val % 11 = 10) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  obtain ⟨n, hn⟩ := t
  cases n with
  | zero => exact rfl
  | succ n => exact (dif_pos h0).trans ((dif_neg h1).trans rfl)

theorem outsAt0_B (c : Dev nD) (t : Fin cfg0.N) (h0 : ¬t.val % 11 = 0) (h1 : ¬t.val % 11 = 10) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 11 = 0) (h1 : t.val % 11 = 10) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What is known before each point: the first scratch buffer as the point before left it, the second one and the generator at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-- Of the output window nothing is said here: the frame claims nothing of it. -/
def forgets0 : Fin 14 → Bool := fun w => w.val == 13

/-- The arrays as found; after each point every input block in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d))

set_option maxHeartbeats 19200000 in

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hN : t.val < 176 := lt_of_lt_of_eq t.isLt (show cfg0.N = 176 from N_0)
  by_cases h0 : t.val % 11 = 0
  · by_cases h1 : t.val % 11 = 10
    · exfalso; omega
    · by_cases hz : t.val = 0
      · rw [PhiS_castSucc m c t, PhiS_zero m c _ _ hz, PhiA0_eq]
        rw [outsAt0_A m c t h0 h1]
        unfold sout0_A_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [HS0]; · iexact HS0
        isplitl [HS1]; · iexact HS1
        iintro ⟨H0, H1, H2, H3, H4, H5, H6, H7, H8, H9, H10, H11, H12, H13, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      · rw [PhiS_castSucc m c t, PhiS_pos m c _ _ hz]
        rw [outsAt0_A m c t h0 h1]
        unfold sout0_A_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [HS0]; · iexists _; iexact HS0
        isplitl [HS1]; · iexact HS1
        iintro ⟨H0, H1, H2, H3, H4, H5, H6, H7, H8, H9, H10, H11, H12, H13, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
  · by_cases h1 : t.val % 11 = 10
    · by_cases hz : t.val = 0
      · exfalso; have hN : t.val < 176 := lt_of_lt_of_eq t.isLt (show cfg0.N = 176 from N_0); omega
      · rw [PhiS_castSucc m c t, PhiS_pos m c _ _ hz]
        rw [outsAt0_C m c t h0 h1]
        unfold sout0_C_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [HS0]; · iexact HS0
        isplitl [HS1]; · iexact HS1
        iintro ⟨H0, H1, H2, H3, H4, H5, H6, H7, H8, H9, H10, H11, H12, H13, HS0, HS1⟩
        isplitl [HS0 HS1 Hg]
        · isplitl [HS0 HS1]
          · isplitl [HS0]
            · unfold owns; iexists _; isplitr
              swap; · iexact HS0
              ipureintro; rfl
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
    · by_cases hz : t.val = 0
      · exfalso; have hN : t.val < 176 := lt_of_lt_of_eq t.isLt (show cfg0.N = 176 from N_0); omega
      · rw [PhiS_castSucc m c t, PhiS_pos m c _ _ hz]
        rw [outsAt0_B m c t h0 h1]
        unfold sout0_B_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [HS0]; · iexact HS0
        isplitl [HS1]; · iexact HS1
        iintro ⟨H0, H1, H2, H3, H4, H5, H6, H7, H8, H9, H10, H11, H12, H13, HS0, HS1⟩
        isplitl [HS0 HS1 Hg]
        · isplitl [HS0 HS1]
          · isplitl [HS0]
            · unfold owns; iexists _; isplitr
              swap; · iexact HS0
              ipureintro; rfl
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 176 := N_0; omega)

set_option backward.isDefEq.respectTransparency.types false in

/-- The whole launch: it ends, with every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_forgotten m ρ (fun c => (dats m 0 c).toRForget forgets0) (A_eq m) (run_main m ρ)

/-- The frame claim of the machine program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Ffn

end
-- ==== Proof.Common.lean ====
module

public import Idealize.ShloMosaic.Lib.Pointwise
public import Idealize.ShloMosaic.Lib.IdealHost

@[expose] public section

noncomputable section

open Idealize.ShloMosaic

namespace Cert.Common

/-- One element of a row of 1024 numbers after the root-mean-square norm with gain `g`, then the modulation by
    `1 + scale` and `shift`: the mean of the squares is taken over the row, and the small number added to it is the
    float word both programs spell. -/
def modulated (x g shift scale : Fin 1024 → EReal) (l : Fin 1024) : EReal :=
  x l * Ideal.rsqrt (Ideal.div (∑ k, x k * x k) (Ideal.ofBits FTy.f32 0x44800000#32) + Ideal.ofBits FTy.f32 0x358637BD#32)
    * g l * (1 + scale l) + shift l

/-- The logistic function as the reference spells it. -/
def sigmoid (x : EReal) : EReal := Ideal.div 1 (1 + Ideal.exp (-x))

/-- The tanh form of the gelu as the reference spells it, its constants the float words both programs spell. -/
def gelu (x : EReal) : EReal :=
  x * (Ideal.ofBits FTy.f32 0x3F000000#32 * (1 + Ideal.tanh (Ideal.ofBits FTy.f32 0x3F4C422A#32
    * (x + Ideal.ofBits FTy.f32 0x3D372713#32 * (x * x * x)))))

theorem half_f32 : Ideal.ofBits FTy.f32 0x3F000000#32 = (((1 : ℝ) / 2 : ℝ) : EReal) := by
  rw [show (1 : ℝ) / 2 = 8388608 * 2 ^ (-24 : ℤ) by norm_num]
  simp [Ideal.ofBits, Ideal.ieee]

/-- Half the hyperbolic tangent of half the argument, plus one half, is the logistic function, at the infinities too. -/
theorem half_tanh (x : EReal) :
    Ideal.ofBits FTy.f32 0x3F000000#32 * Ideal.tanh (Ideal.ofBits FTy.f32 0x3F000000#32 * x)
      + Ideal.ofBits FTy.f32 0x3F000000#32 = sigmoid x := by
  rw [half_f32]
  change _ = Ideal.logistic x
  induction x using EReal.rec with
  | bot =>
    rw [EReal.coe_mul_bot_of_pos (by norm_num), Ideal.tanh_bot, Ideal.logistic_bot, show (-1 : EReal) = ((-1 : ℝ) : EReal) by simp,
      ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    congr 1
    have hp : Real.exp (1 / 2 * r) * Real.exp (-(1 / 2 * r)) = 1 := by rw [← Real.exp_add]; simp
    have hq : Real.exp (-r) = Real.exp (-(1 / 2 * r)) * Real.exp (-(1 / 2 * r)) := by rw [← Real.exp_add]; congr 1; ring
    have h1 : 0 < Real.exp (1 / 2 * r) := Real.exp_pos _
    have h2 : 0 < Real.exp (-(1 / 2 * r)) := Real.exp_pos _
    rw [Real.tanh_eq_sinh_div_cosh, Real.sinh_eq, Real.cosh_eq, hq]
    generalize Real.exp (1 / 2 * r) = a at *
    generalize Real.exp (-(1 / 2 * r)) = b at *
    have ha : a ≠ 0 := h1.ne'
    have hs : a + b ≠ 0 := (add_pos h1 h2).ne'
    have ht : 1 + b * b ≠ 0 := by positivity
    field_simp
    linear_combination (2 * b) * hp

end Cert.Common
-- ==== Proof.FfnTrip.lean ====
module

public import proofs.«01_k».proof.Proof.Common
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Frame
public import proofs.«01_k».proof.Proof.Gen.Kernel.Launch
public import proofs.«01_k».proof.Proof.Gen.Kernel.Loops
public import proofs.«01_k».proof.Proof.Gen.Kernel.Points
public import proofs.«01_k».proof.Proof.Gen.Kernel.Frame
public import proofs.«01_k».proof.Proof.Gen.ReferenceIdeal

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

/-! ## One row of the grid: what a trip of the depthwise loop stores -/

/-- The scratch of up-projected rows at a row given as a number. -/
def rd (U : Vec Ideal S4x2192x128 .f32) (slot : Fin 4) (R : ℕ) (l : Fin 128) : EReal :=
  if h : R < 2192 then U (ix3 slot ⟨R, h⟩ l) else 0

/-- One column of taps: three rows of the grid, 64 stored rows apart. -/
def col (U : Vec Ideal S4x2192x128 .f32) (slot : Fin 4) (w0 w1 w2 : EReal) (k c s : ℕ) (l : Fin 128) : EReal :=
  w0 * rd U slot (64 * k + c + s) l + w1 * rd U slot (64 * k + (c + 64) + s) l + w2 * rd U slot (64 * k + (c + 128) + s) l

/-- The nine taps and the bias at row `8 * t + s` of grid row `k`: the left column is dropped at the row's first element,
    the right one at its last. -/
def taps (U : Vec Ideal S4x2192x128 .f32) (slot : Fin 4) (w : Fin 3 → Fin 3 → EReal) (b : EReal) (k t s : ℕ) (l : Fin 128) : EReal :=
  b + col U slot (w 0 1) (w 1 1) (w 2 1) k (8 * t + 8) s l
    + ((if t = 0 ∧ s = 0 then 0 else col U slot (w 0 0) (w 1 0) (w 2 0) k (8 * t + 7) s l)
      + (if t = 7 ∧ s = 7 then 0 else col U slot (w 0 2) (w 1 2) (w 2 2) k (8 * t + 9) s l))

theorem sel_zero (s : Fin 8) (x y : EReal) :
    Scalar.select (IntOp.cmpi .eq (BitVec.ofNat 32 s.val) 0#32) x y = if s.val = 0 then x else y := by
  fin_cases s <;> rfl

theorem sel_seven (s : Fin 8) (x y : EReal) :
    Scalar.select (IntOp.cmpi .eq (BitVec.ofNat 32 s.val) 7#32) x y = if s.val = 7 then x else y := by
  fin_cases s <;> rfl

theorem row_word (k : ℕ) (hk : k < 32) (a b : BitVec 32) (h : (72#32 + a + b).toNat < 4096) :
    (72#32 + (0#32 + BitVec.ofNat 32 k * 1#32) * 64#32 + a + b).toNat = 64 * k + (72#32 + a + b).toNat := by
  have e : 72#32 + (0#32 + BitVec.ofNat 32 k * 1#32) * 64#32 + a + b = BitVec.ofNat 32 (64 * k) + (72#32 + a + b) := by
    rw [show (0#32 + BitVec.ofNat 32 k * 1#32) * 64#32 = BitVec.ofNat 32 (64 * k) from by
      apply BitVec.eq_of_toNat_eq; simp [BitVec.toNat_mul]; omega]
    ac_rfl
  rw [e, BitVec.toNat_add, BitVec.toNat_ofNat]
  omega

theorem off1_eq (k : Fin k0_t1_loop.trips) (a b : BitVec 32) (h : (72#32 + a + b).toNat < 4096) :
    k0_off1 k a b = ![0, 64 * k.val + (72#32 + a + b).toNat, 0] := by
  have hk : k.val < 32 := Nat.lt_of_lt_of_le k.isLt k0_t1_abs.2.1
  rw [← row_word k.val hk a b h]; rfl

theorem off2_eq (k : Fin k0_t1_loop.trips) (a b : BitVec 32) (h : (72#32 + a + b).toNat < 4096) :
    k0_off2 k a b = ![2, 64 * k.val + (72#32 + a + b).toNat, 0] := by
  have hk : k.val < 32 := Nat.lt_of_lt_of_le k.isLt k0_t1_abs.2.1
  rw [← row_word k.val hk a b h]; rfl

theorem off4_eq (k : Fin k0_t2_loop.trips) (a b : BitVec 32) (h : (72#32 + a + b).toNat < 4096) :
    k0_off4 k a b = ![1, 64 * k.val + (72#32 + a + b).toNat, 0] := by
  have hk : k.val < 32 := Nat.lt_of_lt_of_le k.isLt k0_t2_abs.2.1
  rw [← row_word k.val hk a b h]; rfl

theorem off5_eq (k : Fin k0_t2_loop.trips) (a b : BitVec 32) (h : (72#32 + a + b).toNat < 4096) :
    k0_off5 k a b = ![3, 64 * k.val + (72#32 + a + b).toNat, 0] := by
  have hk : k.val < 32 := Nat.lt_of_lt_of_le k.isLt k0_t2_abs.2.1
  rw [← row_word k.val hk a b h]; rfl

theorem load_row (U : Vec Ideal S4x2192x128 .f32) (slot : Fin 4) (R : ℕ) (off : Fin 3 → ℕ) (he : off = ![slot.val, R, 0])
    (inb : ∀ a, off a + S1x8x128.size a ≤ S4x2192x128.size a) (s : Fin 8) (l : Fin 128) :
    View.ld U (Rect.unit (s := S4x2192x128) off S1x8x128.size inb) (ix3 0 s l) = rd U slot (R + s.val) l := by
  subst he
  have h1 : R + 8 ≤ 2192 := inb 1
  unfold rd
  rw [dif_pos (by omega)]
  pointwise

variable (arg17 : Memref sig .tc .vmem S4x2192x128 .f32) (X : BufTy.Contents (Elt Ideal) arg17.view.ty)

theorem load1 (k : Fin k0_t1_loop.trips) (a b : BitVec 32) (h : (72#32 + a + b).toNat < 4096)
    (inb : ∀ i, k0_off1 k a b i + (![1, 8, 128] : Fin 3 → ℕ) i ≤ S4x2192x128.size i) (s : Fin 8) (l : Fin 128) :
    View.readAt (Elt Ideal) arg17.view (Rect.unit (s := S4x2192x128) (k0_off1 k a b) ![1, 8, 128] inb).toLoadRect X (ix3 0 s l)
      = rd (arg17.view.read (Elt Ideal) X) 0 (64 * k.val + (72#32 + a + b).toNat + s.val) l :=
  load_row _ 0 _ _ (off1_eq k a b h) inb s l

theorem load2 (k : Fin k0_t1_loop.trips) (a b : BitVec 32) (h : (72#32 + a + b).toNat < 4096)
    (inb : ∀ i, k0_off2 k a b i + (![1, 8, 128] : Fin 3 → ℕ) i ≤ S4x2192x128.size i) (s : Fin 8) (l : Fin 128) :
    View.readAt (Elt Ideal) arg17.view (Rect.unit (s := S4x2192x128) (k0_off2 k a b) ![1, 8, 128] inb).toLoadRect X (ix3 0 s l)
      = rd (arg17.view.read (Elt Ideal) X) 2 (64 * k.val + (72#32 + a + b).toNat + s.val) l :=
  load_row _ 2 _ _ (off2_eq k a b h) inb s l

theorem load4 (k : Fin k0_t2_loop.trips) (a b : BitVec 32) (h : (72#32 + a + b).toNat < 4096)
    (inb : ∀ i, k0_off4 k a b i + (![1, 8, 128] : Fin 3 → ℕ) i ≤ S4x2192x128.size i) (s : Fin 8) (l : Fin 128) :
    View.readAt (Elt Ideal) arg17.view (Rect.unit (s := S4x2192x128) (k0_off4 k a b) ![1, 8, 128] inb).toLoadRect X (ix3 0 s l)
      = rd (arg17.view.read (Elt Ideal) X) 1 (64 * k.val + (72#32 + a + b).toNat + s.val) l :=
  load_row _ 1 _ _ (off4_eq k a b h) inb s l

theorem load5 (k : Fin k0_t2_loop.trips) (a b : BitVec 32) (h : (72#32 + a + b).toNat < 4096)
    (inb : ∀ i, k0_off5 k a b i + (![1, 8, 128] : Fin 3 → ℕ) i ≤ S4x2192x128.size i) (s : Fin 8) (l : Fin 128) :
    View.readAt (Elt Ideal) arg17.view (Rect.unit (s := S4x2192x128) (k0_off5 k a b) ![1, 8, 128] inb).toLoadRect X (ix3 0 s l)
      = rd (arg17.view.read (Elt Ideal) X) 3 (64 * k.val + (72#32 + a + b).toNat + s.val) l :=
  load_row _ 3 _ _ (off5_eq k a b h) inb s l

theorem concat8 (x0 x1 x2 x3 x4 x5 x6 x7 : Vec Ideal S8x128 .f32) (t s : Fin 8) (l : Fin 128) :
    k0_pay193 (F := Ideal) x0 x1 x2 x3 x4 x5 x6 x7 (ix2 ⟨8 * t.val + s.val, by omega⟩ l)
      = (![x0, x1, x2, x3, x4, x5, x6, x7] : Fin 8 → Vec Ideal S8x128 .f32) t (ix2 s l) := by
  rcases (by decide : ∀ t : Fin 8, t = 0 ∨ t = 1 ∨ t = 2 ∨ t = 3 ∨ t = 4 ∨ t = 5 ∨ t = 6 ∨ t = 7) t with
    rfl | rfl | rfl | rfl | rfl | rfl | rfl | rfl
  all_goals
    pointwise [k0_pay193]
  all_goals
    repeat rw [dif_neg (by omega)]
    try rw [dif_pos (by omega)]
    congr 2
    apply Fin.ext
    show _ = s.val
    dsimp only
    omega

end Cert.KernelIdeal.Ffn
-- ==== Proof.FfnTrip1.lean ====
module

public import proofs.«01_k».proof.Proof.FfnTrip

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

set_option maxHeartbeats 4000000 in
set_option backward.isDefEq.respectTransparency.types false in
/-- Loop `k0_t1`, one trip: one store of a grid row's gated values, 64 rows of 128 lanes. -/
theorem trip1_at
    (𝒱 : Variants) (c : Dev nD) (bd : Option 𝒱.V) (i : grid0.Coords) (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole) (v109 : IVec S8x128 32)
    (v113 : FVec Ideal S8x128 .f32) (v117 : FVec Ideal S8x128 .f32) (v121 : FVec Ideal S8x128 .f32)
    (v125 : FVec Ideal S8x128 .f32) (v129 : FVec Ideal S8x128 .f32) (v133 : FVec Ideal S8x128 .f32)
    (v137 : FVec Ideal S8x128 .f32) (v141 : FVec Ideal S8x128 .f32) (v145 : FVec Ideal S8x128 .f32)
    (v149 : FVec Ideal S8x128 .f32) (v153 : FVec Ideal S8x128 .f32) (v157 : FVec Ideal S8x128 .f32)
    (v158 : Vec Ideal S1x128 .f32) (v162 : Vec Ideal S1x128 .f32) (v166 : Vec Ideal S1x128 .f32)
    (v170 : Vec Ideal S1x128 .f32) (v174 : Vec Ideal S1x128 .f32) (v178 : Vec Ideal S1x128 .f32)
    (v182 : Vec Ideal S1x128 .f32) (v186 : Vec Ideal S1x128 .f32) (X : BufTy.Contents (Elt Ideal) arg17.view.ty)
    (k : Fin k0_t1_loop.trips) (hv : ∀ s l, v109 (ix2 s l) = BitVec.ofNat 32 s.val) :
    ∃ P : Vec Ideal S64x128 .bf16,
      tripL_k0_t1 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 v109 v113
        v117 v121 v125 v129 v133 v137 v141 v145 v149 v153 v157 v158 v162 v166 v170 v174 v178 v182 v186 X k
        = [⟨Rect.unit (s := S2048x256) (k0_off3 k) S64x128.size (k0_off3_inb k), P⟩]
      ∧ ∀ (t s : Fin 8) (l : Fin 128), P (ix2 ⟨8 * t.val + s.val, by omega⟩ l)
        = gelu (taps (arg17.view.read (Elt Ideal) X) 0
            ![![v113 (ix2 s l), v117 (ix2 s l), v121 (ix2 s l)], ![v125 (ix2 s l), v129 (ix2 s l), v133 (ix2 s l)],
            ![v137 (ix2 s l), v141 (ix2 s l), v145 (ix2 s l)]] (v182 (ix2 0 l)) k.val t.val s.val l)
          * taps (arg17.view.read (Elt Ideal) X) 2
            ![![v149 (ix2 s l), v153 (ix2 s l), v157 (ix2 s l)], ![v158 (ix2 0 l), v162 (ix2 0 l), v166 (ix2 0 l)],
            ![v170 (ix2 0 l), v174 (ix2 0 l), v178 (ix2 0 l)]] (v186 (ix2 0 l)) k.val t.val s.val l := by
  unfold tripL_k0_t1 trip_k0_t1
  dsimp only
  refine ⟨_, rfl, fun t s l => (concat8 _ _ _ _ _ _ _ _ t s l).trans ?_⟩
  rcases (by decide : ∀ t : Fin 8, t = 0 ∨ t = 1 ∨ t = 2 ∨ t = 3 ∨ t = 4 ∨ t = 5 ∨ t = 6 ∨ t = 7) t with
    rfl | rfl | rfl | rfl | rfl | rfl | rfl | rfl
  all_goals
    simp only [Matrix.cons_val,
      trip_k0_t1.sl.r, trip_k0_t1.sl.r_1, trip_k0_t1.sl.r_2, trip_k0_t1.sl.r_3, trip_k0_t1.sl.r_4, trip_k0_t1.sl.r_5,
      trip_k0_t1.sl.r_6, trip_k0_t1.sl.r_7, trip_k0_t1.sl.r_8, trip_k0_t1.sl.r_9, trip_k0_t1.sl.r_10,
      trip_k0_t1.sl.r_11, trip_k0_t1.sl.r_12, trip_k0_t1.sl.r_13, trip_k0_t1.sl.r_14, trip_k0_t1.sl.r_15,
      trip_k0_t1.sl.r_16, trip_k0_t1.sl.r_17, trip_k0_t1.sl.r_18, trip_k0_t1.sl.r_19, trip_k0_t1.sl.r_20,
      trip_k0_t1.sl.r_21, trip_k0_t1.sl.r_22, trip_k0_t1.sl.r_23, trip_k0_t1.sl.r_24, trip_k0_t1.sl.r_25,
      trip_k0_t1.sl.r_26, trip_k0_t1.sl.r_27, trip_k0_t1.sl.r_28, trip_k0_t1.sl.r_29, trip_k0_t1.sl.r_30,
      trip_k0_t1.sl.r_31, trip_k0_t1.sl.r_32, trip_k0_t1.sl.r_33, trip_k0_t1.sl.r_34, trip_k0_t1.sl.r_35,
      trip_k0_t1.sl.r_36, trip_k0_t1.sl.r_37, trip_k0_t1.sl.r_38, trip_k0_t1.sl.r_39, trip_k0_t1.sl.r_40,
      trip_k0_t1.sl.r_41, trip_k0_t1.sl.r_42, trip_k0_t1.sl.r_43, trip_k0_t1.sl.r_44, trip_k0_t1.sl.r_45,
      trip_k0_t1.sl.r_46, trip_k0_t1.sl.r_47, trip_k0_t1.sl.r_48, trip_k0_t1.sl.r_49, trip_k0_t1.sl.r_50,
      trip_k0_t1.sl.r_51, trip_k0_t1.sl.r_52, trip_k0_t1.sl.r_53, trip_k0_t1.sl.r_54, trip_k0_t1.sl.r_55,
      trip_k0_t1.sl.r_56, trip_k0_t1.sl.r_57, trip_k0_t1.sl.r_58, trip_k0_t1.sl.r_59, trip_k0_t1.sl.r_60,
      trip_k0_t1.sl.r_61, trip_k0_t1.sl.r_62, trip_k0_t1.sl.r_63, trip_k0_t1.sl.r_64, trip_k0_t1.sl.r_65,
      trip_k0_t1.sl.r_66, trip_k0_t1.sl.r_67]
    unfold_payloads
    pointwise [hv]
    simp (disch := decide) only [load1, load2, sel_zero, sel_seven]
    unfold gelu
    generalize hA : taps _ 0 _ _ _ _ _ _ = A
    simp [taps, col] at hA ⊢
    simp only [hA]
    try ac_rfl

end Cert.KernelIdeal.Ffn
-- ==== Proof.FfnTrip2.lean ====
module

public import proofs.«01_k».proof.Proof.FfnTrip

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

set_option maxHeartbeats 4000000 in
set_option backward.isDefEq.respectTransparency.types false in
/-- Loop `k0_t2`, one trip: one store of a grid row's gated values, 64 rows of 128 lanes. -/
theorem trip2_at
    (𝒱 : Variants) (c : Dev nD) (bd : Option 𝒱.V) (i : grid0.Coords) (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole) (v109 : IVec S8x128 32)
    (v194 : FVec Ideal S8x128 .f32) (v198 : FVec Ideal S8x128 .f32) (v202 : FVec Ideal S8x128 .f32)
    (v206 : FVec Ideal S8x128 .f32) (v210 : FVec Ideal S8x128 .f32) (v214 : FVec Ideal S8x128 .f32)
    (v218 : FVec Ideal S8x128 .f32) (v222 : FVec Ideal S8x128 .f32) (v226 : FVec Ideal S8x128 .f32)
    (v230 : FVec Ideal S8x128 .f32) (v234 : FVec Ideal S8x128 .f32) (v235 : Vec Ideal S1x128 .f32)
    (v239 : Vec Ideal S1x128 .f32) (v243 : Vec Ideal S1x128 .f32) (v247 : Vec Ideal S1x128 .f32)
    (v251 : Vec Ideal S1x128 .f32) (v255 : Vec Ideal S1x128 .f32) (v259 : Vec Ideal S1x128 .f32)
    (v263 : Vec Ideal S1x128 .f32) (v267 : Vec Ideal S1x128 .f32) (X : BufTy.Contents (Elt Ideal) arg17.view.ty)
    (k : Fin k0_t2_loop.trips) (hv : ∀ s l, v109 (ix2 s l) = BitVec.ofNat 32 s.val) :
    ∃ P : Vec Ideal S64x128 .bf16,
      tripL_k0_t2 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 v109 v194
        v198 v202 v206 v210 v214 v218 v222 v226 v230 v234 v235 v239 v243 v247 v251 v255 v259 v263 v267 X k
        = [⟨Rect.unit (s := S2048x256) (k0_off6 k) S64x128.size (k0_off6_inb k), P⟩]
      ∧ ∀ (t s : Fin 8) (l : Fin 128), P (ix2 ⟨8 * t.val + s.val, by omega⟩ l)
        = gelu (taps (arg17.view.read (Elt Ideal) X) 1
            ![![v194 (ix2 s l), v198 (ix2 s l), v202 (ix2 s l)], ![v206 (ix2 s l), v210 (ix2 s l), v214 (ix2 s l)],
            ![v218 (ix2 s l), v222 (ix2 s l), v226 (ix2 s l)]] (v263 (ix2 0 l)) k.val t.val s.val l)
          * taps (arg17.view.read (Elt Ideal) X) 3
            ![![v230 (ix2 s l), v234 (ix2 s l), v235 (ix2 0 l)], ![v239 (ix2 0 l), v243 (ix2 0 l), v247 (ix2 0 l)],
            ![v251 (ix2 0 l), v255 (ix2 0 l), v259 (ix2 0 l)]] (v267 (ix2 0 l)) k.val t.val s.val l := by
  unfold tripL_k0_t2 trip_k0_t2
  dsimp only
  refine ⟨_, rfl, fun t s l => (concat8 _ _ _ _ _ _ _ _ t s l).trans ?_⟩
  rcases (by decide : ∀ t : Fin 8, t = 0 ∨ t = 1 ∨ t = 2 ∨ t = 3 ∨ t = 4 ∨ t = 5 ∨ t = 6 ∨ t = 7) t with
    rfl | rfl | rfl | rfl | rfl | rfl | rfl | rfl
  all_goals
    simp only [Matrix.cons_val,
      trip_k0_t2.sl.r, trip_k0_t2.sl.r_1, trip_k0_t2.sl.r_2, trip_k0_t2.sl.r_3, trip_k0_t2.sl.r_4, trip_k0_t2.sl.r_5,
      trip_k0_t2.sl.r_6, trip_k0_t2.sl.r_7, trip_k0_t2.sl.r_8, trip_k0_t2.sl.r_9, trip_k0_t2.sl.r_10,
      trip_k0_t2.sl.r_11, trip_k0_t2.sl.r_12, trip_k0_t2.sl.r_13, trip_k0_t2.sl.r_14, trip_k0_t2.sl.r_15,
      trip_k0_t2.sl.r_16, trip_k0_t2.sl.r_17, trip_k0_t2.sl.r_18, trip_k0_t2.sl.r_19, trip_k0_t2.sl.r_20,
      trip_k0_t2.sl.r_21, trip_k0_t2.sl.r_22, trip_k0_t2.sl.r_23, trip_k0_t2.sl.r_24, trip_k0_t2.sl.r_25,
      trip_k0_t2.sl.r_26, trip_k0_t2.sl.r_27, trip_k0_t2.sl.r_28, trip_k0_t2.sl.r_29, trip_k0_t2.sl.r_30,
      trip_k0_t2.sl.r_31, trip_k0_t2.sl.r_32, trip_k0_t2.sl.r_33, trip_k0_t2.sl.r_34, trip_k0_t2.sl.r_35,
      trip_k0_t2.sl.r_36, trip_k0_t2.sl.r_37, trip_k0_t2.sl.r_38, trip_k0_t2.sl.r_39, trip_k0_t2.sl.r_40,
      trip_k0_t2.sl.r_41, trip_k0_t2.sl.r_42, trip_k0_t2.sl.r_43, trip_k0_t2.sl.r_44, trip_k0_t2.sl.r_45,
      trip_k0_t2.sl.r_46, trip_k0_t2.sl.r_47, trip_k0_t2.sl.r_48, trip_k0_t2.sl.r_49, trip_k0_t2.sl.r_50,
      trip_k0_t2.sl.r_51, trip_k0_t2.sl.r_52, trip_k0_t2.sl.r_53, trip_k0_t2.sl.r_54, trip_k0_t2.sl.r_55,
      trip_k0_t2.sl.r_56, trip_k0_t2.sl.r_57, trip_k0_t2.sl.r_58, trip_k0_t2.sl.r_59, trip_k0_t2.sl.r_60,
      trip_k0_t2.sl.r_61, trip_k0_t2.sl.r_62, trip_k0_t2.sl.r_63, trip_k0_t2.sl.r_64, trip_k0_t2.sl.r_65,
      trip_k0_t2.sl.r_66, trip_k0_t2.sl.r_67]
    unfold_payloads
    pointwise [hv]
    simp (disch := decide) only [load4, load5, sel_zero, sel_seven]
    unfold gelu
    generalize hA : taps _ 1 _ _ _ _ _ _ = A
    simp [taps, col] at hA ⊢
    simp only [hA]
    try ac_rfl

end Cert.KernelIdeal.Ffn
-- ==== Proof.FfnKit.lean ====
module

public import proofs.«01_k».proof.Proof.FfnTrip
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 11 % 2 := Pipeline.Grid.coords_val t 1 (by decide) rfl
    have e2 : (grid0.coords t 2).val = t.val / 1 % 11 := Pipeline.Grid.coords_val t 2 (by decide) rfl
    simp only [cond0_0, e0, e1, e2]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the points ≡ 10 (mod 11) — by arithmetic of the point. -/
theorem hcond0_1 : ∀ t : Fin cfg0.N, cond0_1 (grid0.coords t) ↔ t.val % 11 = 10 :=
  (fun t => by
    have ht : t.val < 176 := Nat.lt_of_lt_of_eq t.isLt N_0
    have e0 : (grid0.coords t 0).val = t.val / 22 % 8 := Pipeline.Grid.coords_val t 0 (by decide) rfl
    have e1 : (grid0.coords t 1).val = t.val / 11 % 2 := Pipeline.Grid.coords_val t 1 (by decide) rfl
    have e2 : (grid0.coords t 2).val = t.val / 1 % 11 := Pipeline.Grid.coords_val t 2 (by decide) rfl
    simp only [cond0_1, k0_cond2, e0, e1, e2]
    word_cmp
   : ∀ t : Fin grid0.N, cond0_1 (grid0.coords t) ↔ t.val % 11 = 10)

/-! ## The kernel body on any staging memrefs: a subtype the run finds -/

/-- Each window's current staging memref at point `t`, spelled as the pipeline passes it (`bodyAt0`), and its wholeness. -/
abbrev ms0_0 (t : Fin cfg0.N) : Memref sig .tc .vmem S1x64x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S9x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2048x1024 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S4x2192x128 .f32 := Memref.whole cc0_scratch0
abbrev scM0_1 : Memref sig .tc .vmem S2048x256 .bf16 := Memref.whole cc0_scratch1
/-- The scratch `arg17` the kernel carries between points, as a view: what it holds is stated through it. -/
abbrev VS0_0 : View sig .tc .vmem S4x2192x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Ffn
-- ==== Proof.FfnUp.lean ====
module

public import proofs.«01_k».proof.Proof.FfnKit
public import Idealize.ShloMosaic.Lib.WritesUnit

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

/-! ## The up-projected rows in the first scratch buffer -/

/-- Column `l` of slot `slot`: slots 0 and 1 are the two halves of the gate's block, 2 and 3 of the value's. -/
def upw (x3 x4 : Vec Ideal S1024x256 .bf16) (slot : Fin 4) (k : Fin 1024) (l : Fin 128) : EReal :=
  if slot.val < 2 then x3 (ix2 k ⟨128 * (slot.val % 2) + l.val, by omega⟩)
  else x4 (ix2 k ⟨128 * (slot.val % 2) + l.val, by omega⟩)

/-- The scratch buffer's rows 8 to 2184: the row above the block, the block's own rows, the row below; a row outside the
    image is zero. -/
def ups (p : ℕ) (x0 : Vec Ideal S1x64x1024 .bf16) (x1 : Vec Ideal S1x2048x1024 .bf16) (x2 : Vec Ideal S1x64x1024 .bf16)
    (x3 x4 : Vec Ideal S1024x256 .bf16) (slot : Fin 4) (R : ℕ) (l : Fin 128) : EReal :=
  if R < 72 then
    if p = 0 then 0 else ∑ k : Fin 1024, x0 (ix3 0 (Fin.ofNat 64 (R - 8)) k) * upw x3 x4 slot k l
  else if R < 2120 then ∑ k : Fin 1024, x1 (ix3 0 (Fin.ofNat 2048 (R - 72)) k) * upw x3 x4 slot k l
  else if p = 1 then 0 else ∑ k : Fin 1024, x2 (ix3 0 (Fin.ofNat 64 (R - 2120)) k) * upw x3 x4 slot k l

/-- One store of whole rows into a slot, read under the claim that the buffer holds `G`. -/
theorem slab {sig : RefSig} {κ : Kind} {sp : Space} (v : View sig κ sp S4x2192x128 .f32) (f : v.ty.Contents (Elt Ideal))
    (sl : Fin 4) (o n : ℕ) (inb : ∀ a, (![sl.val, o, 0] : Fin 3 → ℕ) a + (![1, n, 128] : Fin 3 → ℕ) a ≤ S4x2192x128.size a)
    (P : Vec Ideal ⟨3, ![1, n, 128]⟩ .f32) (L : List (View.Piece (Elt Ideal) S4x2192x128 .f32))
    (G : Fin 4 → ℕ → Fin 128 → EReal) (hP : ∀ (r : Fin n) (l : Fin 128), P (ix3 0 r l) = G sl (o + r.val) l)
    (slot : Fin 4) (R : Fin 2192) (l : Fin 128)
    (hL : ¬(slot = sl ∧ o ≤ R.val ∧ R.val < o + n) →
      v.read (Elt Ideal) (v.writes (Elt Ideal) f L) (ix3 slot R l) = G slot R.val l) :
    v.read (Elt Ideal) (v.writes (Elt Ideal) f
        ((⟨Rect.unit (s := S4x2192x128) ![sl.val, o, 0] ![1, n, 128] inb, P⟩ :
          View.Piece (Elt Ideal) S4x2192x128 .f32) :: L)) (ix3 slot R l)
      = G slot R.val l := by
  by_cases h : slot = sl ∧ o ≤ R.val ∧ R.val < o + n
  · obtain ⟨rfl, h1, h2⟩ := h
    refine (View.read_writes_cons_unit_of_mem v f inb P L (ix3 slot R l) (ix3 0 ⟨R.val - o, by omega⟩ l) rfl ?_).trans
      ((hP ⟨R.val - o, by omega⟩ l).trans ?_)
    · intro a
      fin_cases a
      · rfl
      · show R.val = o + (R.val - o); omega
      · show l.val = 0 + l.val; omega
    · congr 1; show o + (R.val - o) = R.val; omega
  · rw [← hL h]
    by_cases hs : slot = sl
    · refine View.read_writes_cons_unit_of_not_mem v f inb P L (ix3 slot R l) rfl 1 ?_
      show R.val < o ∨ o + n ≤ R.val
      by_contra hc
      exact h ⟨hs, by omega, by omega⟩
    · refine View.read_writes_cons_unit_of_not_mem v f inb P L (ix3 slot R l) rfl 0 ?_
      show slot.val < sl.val ∨ sl.val + 1 ≤ slot.val
      have : slot.val ≠ sl.val := fun hc => hs (Fin.ext hc)
      omega

/-- A load of a part of a matrix reads it at the shifted index. -/
theorem ld2 {e : EltTy} {A B n m : ℕ} (w : Vec Ideal ⟨2, ![A, B]⟩ e) (o c : ℕ)
    (inb : ∀ a, (![o, c] : Fin 2 → ℕ) a + (![n, m] : Fin 2 → ℕ) a ≤ (⟨2, ![A, B]⟩ : Shape).size a) (r : Fin n) (l : Fin m)
    (h0 : o + r.val < A) (h1 : c + l.val < B) :
    View.ld w (Rect.unit (s := ⟨2, ![A, B]⟩) ![o, c] ![n, m] inb) (ix2 r l) = w (ix2 ⟨o + r.val, h0⟩ ⟨c + l.val, h1⟩) := by
  refine congrArg w (funext fun a => Fin.ext ?_)
  fin_cases a
  · show o + 1 * r.val = o + r.val; omega
  · show c + 1 * l.val = c + l.val; omega

/-- A load of a part of a block reads it at the shifted index. -/
theorem ld3 {e : EltTy} {A B n m : ℕ} (w : Vec Ideal ⟨3, ![1, A, B]⟩ e) (o c : ℕ)
    (inb : ∀ a, (![0, o, c] : Fin 3 → ℕ) a + (![1, n, m] : Fin 3 → ℕ) a ≤ (⟨3, ![1, A, B]⟩ : Shape).size a) (r : Fin n) (l : Fin m)
    (h0 : o + r.val < A) (h1 : c + l.val < B) :
    View.ld w (Rect.unit (s := ⟨3, ![1, A, B]⟩) ![0, o, c] ![1, n, m] inb) (ix3 0 r l)
      = w (ix3 0 ⟨o + r.val, h0⟩ ⟨c + l.val, h1⟩) := by
  refine congrArg w (funext fun a => Fin.ext ?_)
  fin_cases a
  · rfl
  · show o + 1 * r.val = o + r.val; omega
  · show c + 1 * l.val = c + l.val; omega

/-- A load through a memref holding a vector reads the vector. -/
theorem ld_unread {sp : Space} {s : Shape} {e : EltTy} (M : Memref sig .tc sp s e) (h : M.IsWhole) (x : Vec Ideal s e) (r : Rect s) :
    View.readAt (Elt Ideal) M.view r.toLoadRect (h.unread x) = View.ld x r :=
  congrArg (fun u => View.ld u r) (h.read_unread x)

theorem sgt_zero (p : ℕ) (hp : p < 2) {α : Type} (x y : α) :
    Scalar.select (Scalar.cmpi .sgt (BitVec.ofNat 32 p) 0#32) x y = if p = 0 then y else x := by
  rcases (by omega : p = 0 ∨ p = 1) with rfl | rfl <;> rfl

theorem slt_one (p : ℕ) (hp : p < 2) {α : Type} (x y : α) :
    Scalar.select (Scalar.cmpi .slt (BitVec.ofNat 32 p) 1#32) x y = if p = 1 then y else x := by
  rcases (by omega : p = 0 ∨ p = 1) with rfl | rfl <;> rfl

variable (i : grid0.Coords) (x0 : Vec Ideal S1x64x1024 .bf16) (x1 : Vec Ideal S1x2048x1024 .bf16)
  (x2 : Vec Ideal S1x64x1024 .bf16) (x3 x4 : Vec Ideal S1024x256 .bf16)

theorem upw_0 (k : Fin 1024) (l : Fin 128) : upw x3 x4 0 k l = x3 (ix2 k ⟨l.val, by omega⟩) := by
  simp [upw]

theorem upw_1 (k : Fin 1024) (l : Fin 128) : upw x3 x4 1 k l = x3 (ix2 k ⟨128 + l.val, by omega⟩) := by
  simp [upw]

theorem upw_2 (k : Fin 1024) (l : Fin 128) : upw x3 x4 2 k l = x4 (ix2 k ⟨l.val, by omega⟩) := by
  simp [upw]

theorem upw_3 (k : Fin 1024) (l : Fin 128) : upw x3 x4 3 k l = x4 (ix2 k ⟨128 + l.val, by omega⟩) := by
  simp [upw]

theorem ups_first (p : ℕ) (slot : Fin 4) (r : Fin 64) (l : Fin 128) :
    ups p x0 x1 x2 x3 x4 slot (8 + r.val) l = if p = 0 then 0 else ∑ k : Fin 1024, x0 (ix3 0 r k) * upw x3 x4 slot k l := by
  unfold ups
  rw [if_pos (by omega), show Fin.ofNat 64 (8 + r.val - 8) = r from Fin.ext (by simp)]

theorem ups_last (p : ℕ) (slot : Fin 4) (r : Fin 64) (l : Fin 128) :
    ups p x0 x1 x2 x3 x4 slot (2120 + r.val) l = if p = 1 then 0 else ∑ k : Fin 1024, x2 (ix3 0 r k) * upw x3 x4 slot k l := by
  unfold ups
  rw [if_neg (by omega), if_neg (by omega), show Fin.ofNat 64 (2120 + r.val - 2120) = r from Fin.ext (by simp)]

theorem ups_mid (p : ℕ) (slot : Fin 4) (r : Fin 2048) (l : Fin 128) :
    ups p x0 x1 x2 x3 x4 slot (72 + r.val) l = ∑ k : Fin 1024, x1 (ix3 0 r k) * upw x3 x4 slot k l := by
  unfold ups
  rw [if_neg (by omega), if_pos (by omega), show Fin.ofNat 2048 (72 + r.val - 72) = r from Fin.ext (by simp)]

theorem ups_lo (p : ℕ) (slot : Fin 4) (r : Fin 1024) (l : Fin 128) :
    ups p x0 x1 x2 x3 x4 slot (72 + r.val) l
      = ∑ k : Fin 1024, x1 (ix3 0 ⟨r.val, by omega⟩ k) * upw x3 x4 slot k l :=
  ups_mid x0 x1 x2 x3 x4 p slot ⟨r.val, by omega⟩ l

theorem ups_hi (p : ℕ) (slot : Fin 4) (r : Fin 1024) (l : Fin 128) :
    ups p x0 x1 x2 x3 x4 slot (1096 + r.val) l
      = ∑ k : Fin 1024, x1 (ix3 0 ⟨1024 + r.val, by omega⟩ k) * upw x3 x4 slot k l := by
  rw [← ups_mid x0 x1 x2 x3 x4 p slot ⟨1024 + r.val, by omega⟩ l]
  congr 1; show 1096 + r.val = 72 + (1024 + r.val); omega

/-- The body's stores into the first scratch buffer over the earlier ones `L`, the last first. -/
def upPieces (L : List (View.Piece (Elt Ideal) S4x2192x128 .f32)) : List (View.Piece (Elt Ideal) S4x2192x128 .f32) :=
  ⟨Rect.unit (s := S4x2192x128) ![3, 1096, 0] S1x1024x128.size inb_S4x2192x128_S1x1024x128_3_1096_0,
    k0_pay172 (k0_pay160 (View.ld x3 (Rect.unit (s := S1024x256) ![0, 128] S1024x128.size inb_S1024x256_S1024x128_0_128))
      (View.ld x4 (Rect.unit (s := S1024x256) ![0, 128] S1024x128.size inb_S1024x256_S1024x128_0_128)))
      (View.ld x1 (Rect.unit (s := S1x2048x1024) ![0, 1024, 0] S1x1024x1024.size inb_S1x2048x1024_S1x1024x1024_0_1024_0))⟩ ::
  ⟨Rect.unit (s := S4x2192x128) ![1, 1096, 0] S1x1024x128.size inb_S4x2192x128_S1x1024x128_1_1096_0,
    k0_pay171 (k0_pay160 (View.ld x3 (Rect.unit (s := S1024x256) ![0, 128] S1024x128.size inb_S1024x256_S1024x128_0_128))
      (View.ld x4 (Rect.unit (s := S1024x256) ![0, 128] S1024x128.size inb_S1024x256_S1024x128_0_128)))
      (View.ld x1 (Rect.unit (s := S1x2048x1024) ![0, 1024, 0] S1x1024x1024.size inb_S1x2048x1024_S1x1024x1024_0_1024_0))⟩ ::
  ⟨Rect.unit (s := S4x2192x128) ![3, 72, 0] S1x1024x128.size inb_S4x2192x128_S1x1024x128_3_72_0,
    k0_pay169 (k0_pay160 (View.ld x3 (Rect.unit (s := S1024x256) ![0, 128] S1024x128.size inb_S1024x256_S1024x128_0_128))
      (View.ld x4 (Rect.unit (s := S1024x256) ![0, 128] S1024x128.size inb_S1024x256_S1024x128_0_128)))
      (View.ld x1 (Rect.unit (s := S1x2048x1024) ![0, 0, 0] S1x1024x1024.size inb_S1x2048x1024_S1x1024x1024_0_0_0))⟩ ::
  ⟨Rect.unit (s := S4x2192x128) ![1, 72, 0] S1x1024x128.size inb_S4x2192x128_S1x1024x128_1_72_0,
    k0_pay168 (k0_pay160 (View.ld x3 (Rect.unit (s := S1024x256) ![0, 128] S1024x128.size inb_S1024x256_S1024x128_0_128))
      (View.ld x4 (Rect.unit (s := S1024x256) ![0, 128] S1024x128.size inb_S1024x256_S1024x128_0_128)))
      (View.ld x1 (Rect.unit (s := S1x2048x1024) ![0, 0, 0] S1x1024x1024.size inb_S1x2048x1024_S1x1024x1024_0_0_0))⟩ ::
  ⟨Rect.unit (s := S4x2192x128) ![3, 2120, 0] S1x64x128.size inb_S4x2192x128_S1x64x128_3_2120_0,
    k0_pay166 (BitVec.ofNat 32 (i 1).val) (View.ld x3 (Rect.unit (s := S1024x256) ![0, 128] S1024x128.size inb_S1024x256_S1024x128_0_128))
      (View.ld x4 (Rect.unit (s := S1024x256) ![0, 128] S1024x128.size inb_S1024x256_S1024x128_0_128))
      (View.ld x2 (Rect.unit (s := S1x64x1024) ![0, 0, 0] S1x64x1024.size inb_S1x64x1024_S1x64x1024_0_0_0))⟩ ::
  ⟨Rect.unit (s := S4x2192x128) ![3, 8, 0] S1x64x128.size inb_S4x2192x128_S1x64x128_3_8_0,
    k0_pay165 (BitVec.ofNat 32 (i 1).val) (View.ld x3 (Rect.unit (s := S1024x256) ![0, 128] S1024x128.size inb_S1024x256_S1024x128_0_128))
      (View.ld x4 (Rect.unit (s := S1024x256) ![0, 128] S1024x128.size inb_S1024x256_S1024x128_0_128))
      (View.ld x0 (Rect.unit (s := S1x64x1024) ![0, 0, 0] S1x64x1024.size inb_S1x64x1024_S1x64x1024_0_0_0))⟩ ::
  ⟨Rect.unit (s := S4x2192x128) ![1, 2120, 0] S1x64x128.size inb_S4x2192x128_S1x64x128_1_2120_0,
    k0_pay164 (BitVec.ofNat 32 (i 1).val) (View.ld x3 (Rect.unit (s := S1024x256) ![0, 128] S1024x128.size inb_S1024x256_S1024x128_0_128))
      (View.ld x4 (Rect.unit (s := S1024x256) ![0, 128] S1024x128.size inb_S1024x256_S1024x128_0_128))
      (View.ld x2 (Rect.unit (s := S1x64x1024) ![0, 0, 0] S1x64x1024.size inb_S1x64x1024_S1x64x1024_0_0_0))⟩ ::
  ⟨Rect.unit (s := S4x2192x128) ![1, 8, 0] S1x64x128.size inb_S4x2192x128_S1x64x128_1_8_0,
    k0_pay163 (BitVec.ofNat 32 (i 1).val) (View.ld x3 (Rect.unit (s := S1024x256) ![0, 128] S1024x128.size inb_S1024x256_S1024x128_0_128))
      (View.ld x4 (Rect.unit (s := S1024x256) ![0, 128] S1024x128.size inb_S1024x256_S1024x128_0_128))
      (View.ld x0 (Rect.unit (s := S1x64x1024) ![0, 0, 0] S1x64x1024.size inb_S1x64x1024_S1x64x1024_0_0_0))⟩ ::
  ⟨Rect.unit (s := S4x2192x128) ![2, 1096, 0] S1x1024x128.size inb_S4x2192x128_S1x1024x128_2_1096_0,
    k0_pay159 (k0_pay146 (View.ld x3 (Rect.unit (s := S1024x256) ![0, 0] S1024x128.size inb_S1024x256_S1024x128_0_0))
      (View.ld x4 (Rect.unit (s := S1024x256) ![0, 0] S1024x128.size inb_S1024x256_S1024x128_0_0)))
      (View.ld x1 (Rect.unit (s := S1x2048x1024) ![0, 1024, 0] S1x1024x1024.size inb_S1x2048x1024_S1x1024x1024_0_1024_0))⟩ ::
  ⟨Rect.unit (s := S4x2192x128) ![0, 1096, 0] S1x1024x128.size inb_S4x2192x128_S1x1024x128_0_1096_0,
    k0_pay158 (k0_pay146 (View.ld x3 (Rect.unit (s := S1024x256) ![0, 0] S1024x128.size inb_S1024x256_S1024x128_0_0))
      (View.ld x4 (Rect.unit (s := S1024x256) ![0, 0] S1024x128.size inb_S1024x256_S1024x128_0_0)))
      (View.ld x1 (Rect.unit (s := S1x2048x1024) ![0, 1024, 0] S1x1024x1024.size inb_S1x2048x1024_S1x1024x1024_0_1024_0))⟩ ::
  ⟨Rect.unit (s := S4x2192x128) ![2, 72, 0] S1x1024x128.size inb_S4x2192x128_S1x1024x128_2_72_0,
    k0_pay156 (k0_pay146 (View.ld x3 (Rect.unit (s := S1024x256) ![0, 0] S1024x128.size inb_S1024x256_S1024x128_0_0))
      (View.ld x4 (Rect.unit (s := S1024x256) ![0, 0] S1024x128.size inb_S1024x256_S1024x128_0_0)))
      (View.ld x1 (Rect.unit (s := S1x2048x1024) ![0, 0, 0] S1x1024x1024.size inb_S1x2048x1024_S1x1024x1024_0_0_0))⟩ ::
  ⟨Rect.unit (s := S4x2192x128) ![0, 72, 0] S1x1024x128.size inb_S4x2192x128_S1x1024x128_0_72_0,
    k0_pay155 (k0_pay146 (View.ld x3 (Rect.unit (s := S1024x256) ![0, 0] S1024x128.size inb_S1024x256_S1024x128_0_0))
      (View.ld x4 (Rect.unit (s := S1024x256) ![0, 0] S1024x128.size inb_S1024x256_S1024x128_0_0)))
      (View.ld x1 (Rect.unit (s := S1x2048x1024) ![0, 0, 0] S1x1024x1024.size inb_S1x2048x1024_S1x1024x1024_0_0_0))⟩ ::
  ⟨Rect.unit (s := S4x2192x128) ![2, 2120, 0] S1x64x128.size inb_S4x2192x128_S1x64x128_2_2120_0,
    k0_pay153 (k0_pay148 i (View.ld x3 (Rect.unit (s := S1024x256) ![0, 0] S1024x128.size inb_S1024x256_S1024x128_0_0))
      (View.ld x4 (Rect.unit (s := S1024x256) ![0, 0] S1024x128.size inb_S1024x256_S1024x128_0_0))
      (View.ld x2 (Rect.unit (s := S1x64x1024) ![0, 0, 0] S1x64x1024.size inb_S1x64x1024_S1x64x1024_0_0_0)))⟩ ::
  ⟨Rect.unit (s := S4x2192x128) ![2, 8, 0] S1x64x128.size inb_S4x2192x128_S1x64x128_2_8_0,
    k0_pay152 (k0_pay151 i (View.ld x3 (Rect.unit (s := S1024x256) ![0, 0] S1024x128.size inb_S1024x256_S1024x128_0_0))
      (View.ld x4 (Rect.unit (s := S1024x256) ![0, 0] S1024x128.size inb_S1024x256_S1024x128_0_0))
      (View.ld x0 (Rect.unit (s := S1x64x1024) ![0, 0, 0] S1x64x1024.size inb_S1x64x1024_S1x64x1024_0_0_0)))⟩ ::
  ⟨Rect.unit (s := S4x2192x128) ![0, 2120, 0] S1x64x128.size inb_S4x2192x128_S1x64x128_0_2120_0,
    k0_pay150 i (View.ld x3 (Rect.unit (s := S1024x256) ![0, 0] S1024x128.size inb_S1024x256_S1024x128_0_0))
      (View.ld x4 (Rect.unit (s := S1024x256) ![0, 0] S1024x128.size inb_S1024x256_S1024x128_0_0))
      (View.ld x2 (Rect.unit (s := S1x64x1024) ![0, 0, 0] S1x64x1024.size inb_S1x64x1024_S1x64x1024_0_0_0))⟩ ::
  ⟨Rect.unit (s := S4x2192x128) ![0, 8, 0] S1x64x128.size inb_S4x2192x128_S1x64x128_0_8_0,
    k0_pay149 i (View.ld x3 (Rect.unit (s := S1024x256) ![0, 0] S1024x128.size inb_S1024x256_S1024x128_0_0))
      (View.ld x4 (Rect.unit (s := S1024x256) ![0, 0] S1024x128.size inb_S1024x256_S1024x128_0_0))
      (View.ld x0 (Rect.unit (s := S1x64x1024) ![0, 0, 0] S1x64x1024.size inb_S1x64x1024_S1x64x1024_0_0_0))⟩ ::
  L

set_option maxHeartbeats 2000000 in
theorem U_at {sig : RefSig} {κ : Kind} {sp : Space} (v : View sig κ sp S4x2192x128 .f32) (f : v.ty.Contents (Elt Ideal))
    (L : List (View.Piece (Elt Ideal) S4x2192x128 .f32)) (slot : Fin 4) (R : Fin 2192) (l : Fin 128)
    (h8 : 8 ≤ R.val) (hR : R.val < 2184) :
    v.read (Elt Ideal) (v.writes (Elt Ideal) f (upPieces i x0 x1 x2 x3 x4 L)) (ix3 slot R l)
      = ups (i 1).val x0 x1 x2 x3 x4 slot R.val l := by
  have hp : (i 1).val < 2 := (i 1).isLt
  unfold upPieces
  refine slab v f 3 1096 1024 _ _ _ (ups (i 1).val x0 x1 x2 x3 x4) (fun r l => ?p0) slot R l (fun h0 => ?_)
  rotate_left
  refine slab v f 1 1096 1024 _ _ _ (ups (i 1).val x0 x1 x2 x3 x4) (fun r l => ?p1) slot R l (fun h1 => ?_)
  rotate_left
  refine slab v f 3 72 1024 _ _ _ (ups (i 1).val x0 x1 x2 x3 x4) (fun r l => ?p2) slot R l (fun h2 => ?_)
  rotate_left
  refine slab v f 1 72 1024 _ _ _ (ups (i 1).val x0 x1 x2 x3 x4) (fun r l => ?p3) slot R l (fun h3 => ?_)
  rotate_left
  refine slab v f 3 2120 64 _ _ _ (ups (i 1).val x0 x1 x2 x3 x4) (fun r l => ?p4) slot R l (fun h4 => ?_)
  rotate_left
  refine slab v f 3 8 64 _ _ _ (ups (i 1).val x0 x1 x2 x3 x4) (fun r l => ?p5) slot R l (fun h5 => ?_)
  rotate_left
  refine slab v f 1 2120 64 _ _ _ (ups (i 1).val x0 x1 x2 x3 x4) (fun r l => ?p6) slot R l (fun h6 => ?_)
  rotate_left
  refine slab v f 1 8 64 _ _ _ (ups (i 1).val x0 x1 x2 x3 x4) (fun r l => ?p7) slot R l (fun h7 => ?_)
  rotate_left
  refine slab v f 2 1096 1024 _ _ _ (ups (i 1).val x0 x1 x2 x3 x4) (fun r l => ?p8) slot R l (fun h8 => ?_)
  rotate_left
  refine slab v f 0 1096 1024 _ _ _ (ups (i 1).val x0 x1 x2 x3 x4) (fun r l => ?p9) slot R l (fun h9 => ?_)
  rotate_left
  refine slab v f 2 72 1024 _ _ _ (ups (i 1).val x0 x1 x2 x3 x4) (fun r l => ?p10) slot R l (fun h10 => ?_)
  rotate_left
  refine slab v f 0 72 1024 _ _ _ (ups (i 1).val x0 x1 x2 x3 x4) (fun r l => ?p11) slot R l (fun h11 => ?_)
  rotate_left
  refine slab v f 2 2120 64 _ _ _ (ups (i 1).val x0 x1 x2 x3 x4) (fun r l => ?p12) slot R l (fun h12 => ?_)
  rotate_left
  refine slab v f 2 8 64 _ _ _ (ups (i 1).val x0 x1 x2 x3 x4) (fun r l => ?p13) slot R l (fun h13 => ?_)
  rotate_left
  refine slab v f 0 2120 64 _ _ _ (ups (i 1).val x0 x1 x2 x3 x4) (fun r l => ?p14) slot R l (fun h14 => ?_)
  rotate_left
  refine slab v f 0 8 64 _ _ _ (ups (i 1).val x0 x1 x2 x3 x4) (fun r l => ?p15) slot R l (fun h15 => ?_)
  rotate_left
  · exfalso
    rcases (by decide : ∀ s : Fin 4, s = 0 ∨ s = 1 ∨ s = 2 ∨ s = 3) slot with rfl | rfl | rfl | rfl <;>
      simp only [true_and, Fin.reduceEq, false_and, not_false_eq_true] at * <;> omega
  all_goals
    pointwise [k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172]
    simp only [sgt_zero _ hp, slt_one _ hp, ups_first, ups_last, ups_lo, ups_hi, upw_0, upw_1, upw_2, upw_3]

end Cert.KernelIdeal.Ffn
-- ==== Proof.FfnLoop.lean ====
module

public import proofs.«01_k».proof.Proof.FfnTrip1
public import proofs.«01_k».proof.Proof.FfnTrip2
public import proofs.«01_k».proof.Proof.FfnUp

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

/-! ## What the two depthwise loops leave in the second scratch buffer -/

/-- The gated product of slots `a` and `b` at stored row `R`. -/
def gated (U : Vec Ideal S4x2192x128 .f32) (a b : Fin 4) (wg wv : Fin 128 → Fin 3 → Fin 3 → EReal) (bg bv : Fin 128 → EReal)
    (R : ℕ) (l : Fin 128) : EReal :=
  gelu (taps U a (wg l) (bg l) (R / 64) (R % 64 / 8) (R % 8) l) * taps U b (wv l) (bv l) (R / 64) (R % 64 / 8) (R % 8) l

/-- The taps read only rows 8 to 2184 of the scratch buffer. -/
theorem taps_congr (U U' : Vec Ideal S4x2192x128 .f32) (slot : Fin 4)
    (h : ∀ (R : Fin 2192) (l : Fin 128), 8 ≤ R.val → R.val < 2184 → U (ix3 slot R l) = U' (ix3 slot R l))
    (w : Fin 3 → Fin 3 → EReal) (b : EReal) (k t s : ℕ) (hk : k < 32) (ht : t < 8) (hs : s < 8) (l : Fin 128) :
    taps U slot w b k t s l = taps U' slot w b k t s l := by
  have hr : ∀ R : ℕ, 8 ≤ R → R < 2184 → rd U slot R l = rd U' slot R l := fun R h1 h2 => by
    unfold rd
    rw [dif_pos (by omega), dif_pos (by omega)]
    exact h _ l h1 h2
  have hc : ∀ (w0 w1 w2 : EReal) (c : ℕ), 8 ≤ c + s → c + s < 72 → col U slot w0 w1 w2 k c s l = col U' slot w0 w1 w2 k c s l :=
    fun w0 w1 w2 c h1 h2 => by
      unfold col
      rw [hr _ (by omega) (by omega), hr _ (by omega) (by omega), hr _ (by omega) (by omega)]
  unfold taps
  rw [hc _ _ _ _ (by omega) (by omega)]
  congr 2
  · split
    · rfl
    · exact hc _ _ _ _ (by omega) (by omega)
  · split
    · rfl
    · exact hc _ _ _ _ (by omega) (by omega)

theorem gated_congr (U U' : Vec Ideal S4x2192x128 .f32) (a b : Fin 4)
    (h : ∀ (slot : Fin 4) (R : Fin 2192) (l : Fin 128), 8 ≤ R.val → R.val < 2184 → U (ix3 slot R l) = U' (ix3 slot R l))
    (wg wv : Fin 128 → Fin 3 → Fin 3 → EReal) (bg bv : Fin 128 → EReal) (R : ℕ) (hR : R < 2048) (l : Fin 128) :
    gated U a b wg wv bg bv R l = gated U' a b wg wv bg bv R l := by
  unfold gated
  rw [taps_congr U U' a (h a) _ _ _ _ _ (by omega) (by omega) (by omega),
    taps_congr U U' b (h b) _ _ _ _ _ (by omega) (by omega) (by omega)]

/-- A loop that stores 64 whole rows of a 128-wide band per trip, over any earlier stores. -/
theorem loop_read {sig : RefSig} {κ : Kind} {sp : Space} (v : View sig κ sp S2048x256 .bf16) (f : v.ty.Contents (Elt Ideal))
    (L : List (View.Piece (Elt Ideal) S2048x256 .bf16)) (pb : ℕ → List (View.Piece (Elt Ideal) S2048x256 .bf16)) (c0 : ℕ)
    (G : ℕ → Fin 128 → EReal) (hz : pb 0 = [])
    (hs : ∀ k < 32, ∃ (off : Fin 2 → ℕ) (inb : ∀ a, off a + S64x128.size a ≤ S2048x256.size a) (P : Vec Ideal S64x128 .bf16),
      off = ![64 * k, c0] ∧
      pb (k + 1) = (⟨Rect.unit (s := S2048x256) off S64x128.size inb, P⟩ : View.Piece (Elt Ideal) S2048x256 .bf16) :: pb k
      ∧ ∀ (r : Fin 64) (l : Fin 128), P (ix2 r l) = G (64 * k + r.val) l)
    (n : ℕ) (hn : n ≤ 32) (R : Fin 2048) (q : Fin 256) :
    v.read (Elt Ideal) (v.writes (Elt Ideal) f (pb n ++ L)) (ix2 R q)
      = if R.val < 64 * n ∧ c0 ≤ q.val ∧ q.val < c0 + 128 then G R.val (Fin.ofNat 128 (q.val - c0))
        else v.read (Elt Ideal) (v.writes (Elt Ideal) f L) (ix2 R q) := by
  induction n with
  | zero => rw [hz, if_neg (by omega)]; rfl
  | succ k ih =>
    obtain ⟨off, inb, P, ho, he, hP⟩ := hs k (by omega)
    rw [he, List.cons_append]
    by_cases hq : c0 ≤ q.val ∧ q.val < c0 + 128
    · by_cases hR : 64 * k ≤ R.val ∧ R.val < 64 * k + 64
      · rw [if_pos ⟨by omega, hq⟩]
        refine (View.read_writes_cons_unit_of_mem v f inb P (pb k ++ L) (ix2 R q)
          (ix2 ⟨R.val - 64 * k, by omega⟩ ⟨q.val - c0, by omega⟩) ho ?_).trans ((hP _ _).trans ?_)
        · intro a
          fin_cases a
          · show R.val = 64 * k + (R.val - 64 * k); omega
          · show q.val = c0 + (q.val - c0); omega
        · congr 1
          · show 64 * k + (R.val - 64 * k) = R.val; omega
          · refine Fin.ext ?_
            show q.val - c0 = (q.val - c0) % 128
            omega
      · refine (View.read_writes_cons_unit_of_not_mem v f inb P (pb k ++ L) (ix2 R q) ho 0 ?_).trans ((ih (by omega)).trans ?_)
        · show R.val < 64 * k ∨ 64 * k + 64 ≤ R.val
          omega
        · by_cases hc : R.val < 64 * k
          · rw [if_pos ⟨hc, hq⟩, if_pos ⟨by omega, hq⟩]
          · rw [if_neg (by omega), if_neg (by omega)]
    · refine (View.read_writes_cons_unit_of_not_mem v f inb P (pb k ++ L) (ix2 R q) ho 1 ?_).trans ((ih (by omega)).trans ?_)
      · show q.val < c0 ∨ c0 + 128 ≤ q.val
        omega
      · rw [if_neg (by omega), if_neg (by omega)]

/-- A trip's stored rows, `8 * t + s` by tile and row, at the row's number. -/
theorem trip_rows (P : Vec Ideal S64x128 .bf16) (U : Vec Ideal S4x2192x128 .f32) (a b : Fin 4)
    (wg wv : Fin 128 → Fin 3 → Fin 3 → EReal) (bg bv : Fin 128 → EReal) (k : ℕ)
    (h : ∀ (t s : Fin 8) (l : Fin 128), P (ix2 ⟨8 * t.val + s.val, by omega⟩ l)
      = gelu (taps U a (wg l) (bg l) k t.val s.val l) * taps U b (wv l) (bv l) k t.val s.val l) (r : Fin 64) (l : Fin 128) :
    P (ix2 r l) = gated U a b wg wv bg bv (64 * k + r.val) l := by
  have h1 := h ⟨r.val / 8, by omega⟩ ⟨r.val % 8, by omega⟩ l
  have e : (⟨8 * (r.val / 8) + r.val % 8, by omega⟩ : Fin 64) = r := Fin.ext (by show 8 * (r.val / 8) + r.val % 8 = r.val; omega)
  rw [e] at h1
  rw [h1]
  unfold gated
  rw [show (64 * k + r.val) / 64 = k by omega, show (64 * k + r.val) % 64 / 8 = r.val / 8 by omega,
    show (64 * k + r.val) % 8 = r.val % 8 by omega]

theorem k0_off3_lit (k : ℕ) (hk : k < k0_t1_loop.trips) : k0_off3 ⟨k, hk⟩ = ![64 * k, 0] := by
  have h : k < 32 := Nat.lt_of_lt_of_le hk k0_t1_abs.2.1
  have e : ((0#32 + BitVec.ofNat 32 k * 1#32) * 64#32).toNat = 64 * k := by simp [BitVec.toNat_mul]; omega
  rw [← e]; rfl

theorem k0_off6_lit (k : ℕ) (hk : k < k0_t2_loop.trips) : k0_off6 ⟨k, hk⟩ = ![64 * k, 128] := by
  have h : k < 32 := Nat.lt_of_lt_of_le hk k0_t2_abs.2.1
  have e : ((0#32 + BitVec.ofNat 32 k * 1#32) * 64#32).toNat = 64 * k := by simp [BitVec.toNat_mul]; omega
  rw [← e]; rfl

set_option backward.isDefEq.respectTransparency.types false in
theorem pb1_at
    (𝒱 : Variants) (c : Dev nD) (bd : Option 𝒱.V) (i : grid0.Coords) (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole) (v109 : IVec S8x128 32)
    (v113 : FVec Ideal S8x128 .f32) (v117 : FVec Ideal S8x128 .f32) (v121 : FVec Ideal S8x128 .f32)
    (v125 : FVec Ideal S8x128 .f32) (v129 : FVec Ideal S8x128 .f32) (v133 : FVec Ideal S8x128 .f32)
    (v137 : FVec Ideal S8x128 .f32) (v141 : FVec Ideal S8x128 .f32) (v145 : FVec Ideal S8x128 .f32)
    (v149 : FVec Ideal S8x128 .f32) (v153 : FVec Ideal S8x128 .f32) (v157 : FVec Ideal S8x128 .f32)
    (v158 : Vec Ideal S1x128 .f32) (v162 : Vec Ideal S1x128 .f32) (v166 : Vec Ideal S1x128 .f32)
    (v170 : Vec Ideal S1x128 .f32) (v174 : Vec Ideal S1x128 .f32) (v178 : Vec Ideal S1x128 .f32)
    (v182 : Vec Ideal S1x128 .f32) (v186 : Vec Ideal S1x128 .f32) (X : BufTy.Contents (Elt Ideal) arg17.view.ty)
    (hv : ∀ s l, v109 (ix2 s l) = BitVec.ofNat 32 s.val) (wg wv : Fin 128 → Fin 3 → Fin 3 → EReal) (bg bv : Fin 128 → EReal)
    (hwg : ∀ (s : Fin 8) (l : Fin 128), ![![v113 (ix2 s l), v117 (ix2 s l), v121 (ix2 s l)], ![v125 (ix2 s l), v129 (ix2 s l), v133 (ix2 s l)],
      ![v137 (ix2 s l), v141 (ix2 s l), v145 (ix2 s l)]] = wg l)
    (hwv : ∀ (s : Fin 8) (l : Fin 128), ![![v149 (ix2 s l), v153 (ix2 s l), v157 (ix2 s l)], ![v158 (ix2 0 l), v162 (ix2 0 l), v166 (ix2 0 l)],
      ![v170 (ix2 0 l), v174 (ix2 0 l), v178 (ix2 0 l)]] = wv l)
    (hbg : ∀ l, v182 (ix2 0 l) = bg l) (hbv : ∀ l, v186 (ix2 0 l) = bv l)
    (f : arg18.view.ty.Contents (Elt Ideal)) (L M : List (View.Piece (Elt Ideal) S2048x256 .bf16))
    (hM : M = pb_k0_t1 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 v109 v113
        v117 v121 v125 v129 v133 v137 v141 v145 v149 v153 v157 v158 v162 v166 v170 v174 v178 v182 v186 X k0_t1_loop.trips ++ L) (R : Fin 2048) (q : Fin 256) :
    arg18.view.read (Elt Ideal) (arg18.view.writes (Elt Ideal) f M) (ix2 R q)
      = if 0 ≤ q.val ∧ q.val < 0 + 128 then
          gated (arg17.view.read (Elt Ideal) X) 0 2 wg wv bg bv R.val (Fin.ofNat 128 (q.val - 0))
        else arg18.view.read (Elt Ideal) (arg18.view.writes (Elt Ideal) f L) (ix2 R q) := by
  subst hM
  have ht : k0_t1_loop.trips = 32 := by decide
  refine (loop_read arg18.view f L _ 0 (gated (arg17.view.read (Elt Ideal) X) 0 2 wg wv bg bv) ?_ (fun k hk => ?_)
    k0_t1_loop.trips (le_of_eq ht) R q).trans (if_congr (and_iff_right (by omega)) rfl rfl)
  · rfl
  · have hk' : k < k0_t1_loop.trips := lt_of_lt_of_eq hk (by decide)
    obtain ⟨P, h1, h2⟩ := trip1_at
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 v109 v113
        v117 v121 v125 v129 v133 v137 v141 v145 v149 v153 v157 v158 v162 v166 v170 v174 v178 v182 v186 X ⟨k, hk'⟩ hv
    refine ⟨k0_off3 ⟨k, hk'⟩, k0_off3_inb ⟨k, hk'⟩, P, ?_, ?_, trip_rows P _ 0 2 wg wv bg bv k fun t s l => ?_⟩
    · exact k0_off3_lit k hk'
    · refine (pb_k0_t1_succ (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 v109 v113
        v117 v121 v125 v129 v133 v137 v141 v145 v149 v153 v157 v158 v162 v166 v170 v174 v178 v182 v186 X ⟨k, hk'⟩).trans ?_
      rw [h1]; rfl
    · rw [← hwg s l, ← hwv s l, ← hbg l, ← hbv l]
      exact h2 t s l

set_option backward.isDefEq.respectTransparency.types false in
theorem pb2_at
    (𝒱 : Variants) (c : Dev nD) (bd : Option 𝒱.V) (i : grid0.Coords) (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole) (v109 : IVec S8x128 32)
    (v194 : FVec Ideal S8x128 .f32) (v198 : FVec Ideal S8x128 .f32) (v202 : FVec Ideal S8x128 .f32)
    (v206 : FVec Ideal S8x128 .f32) (v210 : FVec Ideal S8x128 .f32) (v214 : FVec Ideal S8x128 .f32)
    (v218 : FVec Ideal S8x128 .f32) (v222 : FVec Ideal S8x128 .f32) (v226 : FVec Ideal S8x128 .f32)
    (v230 : FVec Ideal S8x128 .f32) (v234 : FVec Ideal S8x128 .f32) (v235 : Vec Ideal S1x128 .f32)
    (v239 : Vec Ideal S1x128 .f32) (v243 : Vec Ideal S1x128 .f32) (v247 : Vec Ideal S1x128 .f32)
    (v251 : Vec Ideal S1x128 .f32) (v255 : Vec Ideal S1x128 .f32) (v259 : Vec Ideal S1x128 .f32)
    (v263 : Vec Ideal S1x128 .f32) (v267 : Vec Ideal S1x128 .f32) (X : BufTy.Contents (Elt Ideal) arg17.view.ty)
    (hv : ∀ s l, v109 (ix2 s l) = BitVec.ofNat 32 s.val) (wg wv : Fin 128 → Fin 3 → Fin 3 → EReal) (bg bv : Fin 128 → EReal)
    (hwg : ∀ (s : Fin 8) (l : Fin 128), ![![v194 (ix2 s l), v198 (ix2 s l), v202 (ix2 s l)], ![v206 (ix2 s l), v210 (ix2 s l), v214 (ix2 s l)],
      ![v218 (ix2 s l), v222 (ix2 s l), v226 (ix2 s l)]] = wg l)
    (hwv : ∀ (s : Fin 8) (l : Fin 128), ![![v230 (ix2 s l), v234 (ix2 s l), v235 (ix2 0 l)], ![v239 (ix2 0 l), v243 (ix2 0 l), v247 (ix2 0 l)],
      ![v251 (ix2 0 l), v255 (ix2 0 l), v259 (ix2 0 l)]] = wv l)
    (hbg : ∀ l, v263 (ix2 0 l) = bg l) (hbv : ∀ l, v267 (ix2 0 l) = bv l)
    (f : arg18.view.ty.Contents (Elt Ideal)) (L M : List (View.Piece (Elt Ideal) S2048x256 .bf16))
    (hM : M = pb_k0_t2 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 v109 v194
        v198 v202 v206 v210 v214 v218 v222 v226 v230 v234 v235 v239 v243 v247 v251 v255 v259 v263 v267 X k0_t2_loop.trips ++ L) (R : Fin 2048) (q : Fin 256) :
    arg18.view.read (Elt Ideal) (arg18.view.writes (Elt Ideal) f M) (ix2 R q)
      = if 128 ≤ q.val ∧ q.val < 128 + 128 then
          gated (arg17.view.read (Elt Ideal) X) 1 3 wg wv bg bv R.val (Fin.ofNat 128 (q.val - 128))
        else arg18.view.read (Elt Ideal) (arg18.view.writes (Elt Ideal) f L) (ix2 R q) := by
  subst hM
  have ht : k0_t2_loop.trips = 32 := by decide
  refine (loop_read arg18.view f L _ 128 (gated (arg17.view.read (Elt Ideal) X) 1 3 wg wv bg bv) ?_ (fun k hk => ?_)
    k0_t2_loop.trips (le_of_eq ht) R q).trans (if_congr (and_iff_right (by omega)) rfl rfl)
  · rfl
  · have hk' : k < k0_t2_loop.trips := lt_of_lt_of_eq hk (by decide)
    obtain ⟨P, h1, h2⟩ := trip2_at
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 v109 v194
        v198 v202 v206 v210 v214 v218 v222 v226 v230 v234 v235 v239 v243 v247 v251 v255 v259 v263 v267 X ⟨k, hk'⟩ hv
    refine ⟨k0_off6 ⟨k, hk'⟩, k0_off6_inb ⟨k, hk'⟩, P, ?_, ?_, trip_rows P _ 1 3 wg wv bg bv k fun t s l => ?_⟩
    · exact k0_off6_lit k hk'
    · refine (pb_k0_t2_succ (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 v109 v194
        v198 v202 v206 v210 v214 v218 v222 v226 v230 v234 v235 v239 v243 v247 v251 v255 v259 v263 v267 X ⟨k, hk'⟩).trans ?_
      rw [h1]; rfl
    · rw [← hwg s l, ← hwv s l, ← hbg l, ← hbv l]
      exact h2 t s l

end Cert.KernelIdeal.Ffn
-- ==== Proof.FfnGate.lean ====
module

public import proofs.«01_k».proof.Proof.FfnLoop
public import proofs.«01_k».proof.Proof.FfnUp

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

/-! ## The second scratch buffer after both loops, in the blocks read -/

/-- The nine weights of half `h` of a block's columns, by tap. -/
def wts (x : Vec Ideal S9x256 .f32) (h : Fin 2) (l : Fin 128) : Fin 3 → Fin 3 → EReal := fun a b =>
  x (ix2 ⟨3 * a.val + b.val, by omega⟩ ⟨128 * h.val + l.val, by omega⟩)

/-- The bias of half `h` of a block's columns. -/
def bia (x : Vec Ideal S1x256 .f32) (h : Fin 2) (l : Fin 128) : EReal := x (ix2 0 ⟨128 * h.val + l.val, by omega⟩)

/-- The up-projected rows as a buffer. -/
def upv (p : ℕ) (x0 : Vec Ideal S1x64x1024 .bf16) (x1 : Vec Ideal S1x2048x1024 .bf16) (x2 : Vec Ideal S1x64x1024 .bf16)
    (x3 x4 : Vec Ideal S1024x256 .bf16) : Vec Ideal S4x2192x128 .f32 := fun j => ups p x0 x1 x2 x3 x4 (j 0) (j 1).val (j 2)

/-- The gated product at row `R` and column `q` of the block of columns. -/
def gat (U : Vec Ideal S4x2192x128 .f32) (x5 x6 : Vec Ideal S9x256 .f32) (x7 x8 : Vec Ideal S1x256 .f32) (R : ℕ) (q : Fin 256) : EReal :=
  if q.val < 128 then gated U 0 2 (wts x5 0) (wts x6 0) (bia x7 0) (bia x8 0) R (Fin.ofNat 128 q.val)
  else gated U 1 3 (wts x5 1) (wts x6 1) (bia x7 1) (bia x8 1) R (Fin.ofNat 128 (q.val - 128))

theorem iota_row (s : Fin 8) (l : Fin 128) : (iota .tc S8x128 32 [0] iota_S8x128_d0_w32) (ix2 s l) = BitVec.ofNat 32 s.val := by
  pointwise []

theorem P_at
    (𝒱 : Variants) (c : Dev nD) (bd : Option 𝒱.V) (i : grid0.Coords) (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (x5 x6 : Vec Ideal S9x256 .f32) (x7 x8 : Vec Ideal S1x256 .f32) (X : BufTy.Contents (Elt Ideal) arg17.view.ty)
    (U : Vec Ideal S4x2192x128 .f32)
    (hX : ∀ (slot : Fin 4) (R : Fin 2192) (l : Fin 128), 8 ≤ R.val → R.val < 2184 →
      arg17.view.read (Elt Ideal) X (ix3 slot R l) = U (ix3 slot R l))
    (f : arg18.view.ty.Contents (Elt Ideal)) (R : Fin 2048) (q : Fin 256) :
    arg18.view.read (Elt Ideal) (arg18.view.writes (Elt Ideal) f (pb_k0_t2 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      (iota .tc S8x128 32 [0] iota_S8x128_d0_w32)
      (k0_pay194 (View.readAt (Elt Ideal) arg8.view (Rect.unit (s := S9x256) ![0, 128] S1x128.size inb_S9x256_S1x128_0_128).toLoadRect (harg8.unread x5)))
      (k0_pay195 (View.readAt (Elt Ideal) arg8.view (Rect.unit (s := S9x256) ![1, 128] S1x128.size inb_S9x256_S1x128_1_128).toLoadRect (harg8.unread x5)))
      (k0_pay196 (View.readAt (Elt Ideal) arg8.view (Rect.unit (s := S9x256) ![2, 128] S1x128.size inb_S9x256_S1x128_2_128).toLoadRect (harg8.unread x5)))
      (k0_pay197 (View.readAt (Elt Ideal) arg8.view (Rect.unit (s := S9x256) ![3, 128] S1x128.size inb_S9x256_S1x128_3_128).toLoadRect (harg8.unread x5)))
      (k0_pay198 (View.readAt (Elt Ideal) arg8.view (Rect.unit (s := S9x256) ![4, 128] S1x128.size inb_S9x256_S1x128_4_128).toLoadRect (harg8.unread x5)))
      (k0_pay199 (View.readAt (Elt Ideal) arg8.view (Rect.unit (s := S9x256) ![5, 128] S1x128.size inb_S9x256_S1x128_5_128).toLoadRect (harg8.unread x5)))
      (k0_pay200 (View.readAt (Elt Ideal) arg8.view (Rect.unit (s := S9x256) ![6, 128] S1x128.size inb_S9x256_S1x128_6_128).toLoadRect (harg8.unread x5)))
      (k0_pay201 (View.readAt (Elt Ideal) arg8.view (Rect.unit (s := S9x256) ![7, 128] S1x128.size inb_S9x256_S1x128_7_128).toLoadRect (harg8.unread x5)))
      (k0_pay202 (View.readAt (Elt Ideal) arg8.view (Rect.unit (s := S9x256) ![8, 128] S1x128.size inb_S9x256_S1x128_8_128).toLoadRect (harg8.unread x5)))
      (k0_pay203 (View.readAt (Elt Ideal) arg9.view (Rect.unit (s := S9x256) ![0, 128] S1x128.size inb_S9x256_S1x128_0_128).toLoadRect (harg9.unread x6)))
      (k0_pay204 (View.readAt (Elt Ideal) arg9.view (Rect.unit (s := S9x256) ![1, 128] S1x128.size inb_S9x256_S1x128_1_128).toLoadRect (harg9.unread x6)))
      (View.readAt (Elt Ideal) arg9.view (Rect.unit (s := S9x256) ![2, 128] S1x128.size inb_S9x256_S1x128_2_128).toLoadRect (harg9.unread x6))
      (View.readAt (Elt Ideal) arg9.view (Rect.unit (s := S9x256) ![3, 128] S1x128.size inb_S9x256_S1x128_3_128).toLoadRect (harg9.unread x6))
      (View.readAt (Elt Ideal) arg9.view (Rect.unit (s := S9x256) ![4, 128] S1x128.size inb_S9x256_S1x128_4_128).toLoadRect (harg9.unread x6))
      (View.readAt (Elt Ideal) arg9.view (Rect.unit (s := S9x256) ![5, 128] S1x128.size inb_S9x256_S1x128_5_128).toLoadRect (harg9.unread x6))
      (View.readAt (Elt Ideal) arg9.view (Rect.unit (s := S9x256) ![6, 128] S1x128.size inb_S9x256_S1x128_6_128).toLoadRect (harg9.unread x6))
      (View.readAt (Elt Ideal) arg9.view (Rect.unit (s := S9x256) ![7, 128] S1x128.size inb_S9x256_S1x128_7_128).toLoadRect (harg9.unread x6))
      (View.readAt (Elt Ideal) arg9.view (Rect.unit (s := S9x256) ![8, 128] S1x128.size inb_S9x256_S1x128_8_128).toLoadRect (harg9.unread x6))
      (View.readAt (Elt Ideal) arg10.view (Rect.unit (s := S1x256) ![0, 128] S1x128.size inb_S1x256_S1x128_0_128).toLoadRect (harg10.unread x7))
      (View.readAt (Elt Ideal) arg11.view (Rect.unit (s := S1x256) ![0, 128] S1x128.size inb_S1x256_S1x128_0_128).toLoadRect (harg11.unread x8))
      X k0_t2_loop.trips ++ pb_k0_t1 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      (iota .tc S8x128 32 [0] iota_S8x128_d0_w32)
      (k0_pay173 (View.readAt (Elt Ideal) arg8.view (Rect.unit (s := S9x256) ![0, 0] S1x128.size inb_S9x256_S1x128_0_0).toLoadRect (harg8.unread x5)))
      (k0_pay174 (View.readAt (Elt Ideal) arg8.view (Rect.unit (s := S9x256) ![1, 0] S1x128.size inb_S9x256_S1x128_1_0).toLoadRect (harg8.unread x5)))
      (k0_pay175 (View.readAt (Elt Ideal) arg8.view (Rect.unit (s := S9x256) ![2, 0] S1x128.size inb_S9x256_S1x128_2_0).toLoadRect (harg8.unread x5)))
      (k0_pay176 (View.readAt (Elt Ideal) arg8.view (Rect.unit (s := S9x256) ![3, 0] S1x128.size inb_S9x256_S1x128_3_0).toLoadRect (harg8.unread x5)))
      (k0_pay177 (View.readAt (Elt Ideal) arg8.view (Rect.unit (s := S9x256) ![4, 0] S1x128.size inb_S9x256_S1x128_4_0).toLoadRect (harg8.unread x5)))
      (k0_pay178 (View.readAt (Elt Ideal) arg8.view (Rect.unit (s := S9x256) ![5, 0] S1x128.size inb_S9x256_S1x128_5_0).toLoadRect (harg8.unread x5)))
      (k0_pay179 (View.readAt (Elt Ideal) arg8.view (Rect.unit (s := S9x256) ![6, 0] S1x128.size inb_S9x256_S1x128_6_0).toLoadRect (harg8.unread x5)))
      (k0_pay180 (View.readAt (Elt Ideal) arg8.view (Rect.unit (s := S9x256) ![7, 0] S1x128.size inb_S9x256_S1x128_7_0).toLoadRect (harg8.unread x5)))
      (k0_pay181 (View.readAt (Elt Ideal) arg8.view (Rect.unit (s := S9x256) ![8, 0] S1x128.size inb_S9x256_S1x128_8_0).toLoadRect (harg8.unread x5)))
      (k0_pay182 (View.readAt (Elt Ideal) arg9.view (Rect.unit (s := S9x256) ![0, 0] S1x128.size inb_S9x256_S1x128_0_0).toLoadRect (harg9.unread x6)))
      (k0_pay183 (View.readAt (Elt Ideal) arg9.view (Rect.unit (s := S9x256) ![1, 0] S1x128.size inb_S9x256_S1x128_1_0).toLoadRect (harg9.unread x6)))
      (k0_pay184 (View.readAt (Elt Ideal) arg9.view (Rect.unit (s := S9x256) ![2, 0] S1x128.size inb_S9x256_S1x128_2_0).toLoadRect (harg9.unread x6)))
      (View.readAt (Elt Ideal) arg9.view (Rect.unit (s := S9x256) ![3, 0] S1x128.size inb_S9x256_S1x128_3_0).toLoadRect (harg9.unread x6))
      (View.readAt (Elt Ideal) arg9.view (Rect.unit (s := S9x256) ![4, 0] S1x128.size inb_S9x256_S1x128_4_0).toLoadRect (harg9.unread x6))
      (View.readAt (Elt Ideal) arg9.view (Rect.unit (s := S9x256) ![5, 0] S1x128.size inb_S9x256_S1x128_5_0).toLoadRect (harg9.unread x6))
      (View.readAt (Elt Ideal) arg9.view (Rect.unit (s := S9x256) ![6, 0] S1x128.size inb_S9x256_S1x128_6_0).toLoadRect (harg9.unread x6))
      (View.readAt (Elt Ideal) arg9.view (Rect.unit (s := S9x256) ![7, 0] S1x128.size inb_S9x256_S1x128_7_0).toLoadRect (harg9.unread x6))
      (View.readAt (Elt Ideal) arg9.view (Rect.unit (s := S9x256) ![8, 0] S1x128.size inb_S9x256_S1x128_8_0).toLoadRect (harg9.unread x6))
      (View.readAt (Elt Ideal) arg10.view (Rect.unit (s := S1x256) ![0, 0] S1x128.size inb_S1x256_S1x128_0_0).toLoadRect (harg10.unread x7))
      (View.readAt (Elt Ideal) arg11.view (Rect.unit (s := S1x256) ![0, 0] S1x128.size inb_S1x256_S1x128_0_0).toLoadRect (harg11.unread x8))
      X k0_t1_loop.trips)) (ix2 R q)
      = gat U x5 x6 x7 x8 R.val q := by
  refine (pb2_at (hv := iota_row) (wg := wts x5 1) (wv := wts x6 1) (bg := bia x7 1) (bv := bia x8 1)
    (hwg := fun s l => ?_) (hwv := fun s l => ?_) (hbg := fun l => ?_) (hbv := fun l => ?_) (hM := rfl) ..).trans ?_
  · funext a b
    fin_cases a <;> fin_cases b <;> pointwise [k0_pay194, k0_pay195, k0_pay196, k0_pay197, k0_pay198, k0_pay199, k0_pay200,
      k0_pay201, k0_pay202, ld_unread, wts]
  · funext a b
    fin_cases a <;> fin_cases b <;> pointwise [k0_pay203, k0_pay204, ld_unread, wts]
  · pointwise [ld_unread, bia]
  · pointwise [ld_unread, bia]
  unfold gat
  by_cases hq : q.val < 128
  · rw [if_neg (by omega), if_pos hq]
    refine (pb1_at (hv := iota_row) (wg := wts x5 0) (wv := wts x6 0) (bg := bia x7 0) (bv := bia x8 0)
      (hwg := fun s l => ?_) (hwv := fun s l => ?_) (hbg := fun l => ?_) (hbv := fun l => ?_)
      (hM := (List.append_nil _).symm) ..).trans ?_
    · funext a b
      fin_cases a <;> fin_cases b <;> pointwise [k0_pay173, k0_pay174, k0_pay175, k0_pay176, k0_pay177, k0_pay178, k0_pay179,
        k0_pay180, k0_pay181, ld_unread, wts]
    · funext a b
      fin_cases a <;> fin_cases b <;> pointwise [k0_pay182, k0_pay183, k0_pay184, ld_unread, wts]
    · pointwise [ld_unread, bia]
    · pointwise [ld_unread, bia]
    rw [if_pos (by omega)]
    exact gated_congr _ _ _ _ hX _ _ _ _ _ R.isLt _
  · rw [if_pos (by omega), if_neg hq]
    exact gated_congr _ _ _ _ hX _ _ _ _ _ R.isLt _

end Cert.KernelIdeal.Ffn
-- ==== Proof.FfnAcc.lean ====
module

public import proofs.«01_k».proof.Proof.FfnUp

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

/-! ## The output block after the down-projection of one block of columns -/

/-- One store of a rectangle into the output block, read under the claim that the block holds `G`. -/
theorem slabO {sig : RefSig} {κ : Kind} {sp : Space} (v : View sig κ sp S1x2048x1024 .f32) (f : v.ty.Contents (Elt Ideal))
    (o c n m : ℕ) (inb : ∀ a, (![0, o, c] : Fin 3 → ℕ) a + (![1, n, m] : Fin 3 → ℕ) a ≤ S1x2048x1024.size a)
    (P : Vec Ideal ⟨3, ![1, n, m]⟩ .f32) (L : List (View.Piece (Elt Ideal) S1x2048x1024 .f32))
    (G : ℕ → ℕ → EReal) (hP : ∀ (r : Fin n) (l : Fin m), P (ix3 0 r l) = G (o + r.val) (c + l.val))
    (R : Fin 2048) (q : Fin 1024)
    (hL : ¬((o ≤ R.val ∧ R.val < o + n) ∧ c ≤ q.val ∧ q.val < c + m) →
      v.read (Elt Ideal) (v.writes (Elt Ideal) f L) (ix3 0 R q) = G R.val q.val) :
    v.read (Elt Ideal) (v.writes (Elt Ideal) f
        ((⟨Rect.unit (s := S1x2048x1024) ![0, o, c] ![1, n, m] inb, P⟩ :
          View.Piece (Elt Ideal) S1x2048x1024 .f32) :: L)) (ix3 0 R q)
      = G R.val q.val := by
  by_cases h : (o ≤ R.val ∧ R.val < o + n) ∧ c ≤ q.val ∧ q.val < c + m
  · obtain ⟨⟨h1, h2⟩, h3, h4⟩ := h
    refine (View.read_writes_cons_unit_of_mem v f inb P L (ix3 0 R q)
      (ix3 0 ⟨R.val - o, by omega⟩ ⟨q.val - c, by omega⟩) rfl ?_).trans ((hP _ _).trans ?_)
    · intro a
      fin_cases a
      · rfl
      · show R.val = o + (R.val - o); omega
      · show q.val = c + (q.val - c); omega
    · congr 1
      · show o + (R.val - o) = R.val; omega
      · show c + (q.val - c) = q.val; omega
  · rw [← hL h]
    by_cases hs : o ≤ R.val ∧ R.val < o + n
    · refine View.read_writes_cons_unit_of_not_mem v f inb P L (ix3 0 R q) rfl 2 ?_
      show q.val < c ∨ c + m ≤ q.val
      by_contra hc
      exact h ⟨hs, by omega, by omega⟩
    · refine View.read_writes_cons_unit_of_not_mem v f inb P L (ix3 0 R q) rfl 1 ?_
      show R.val < o ∨ o + n ≤ R.val
      omega

/-- The block `B` with the product of the gated rows `p` and the down-projection's rows `x9` added. -/
def accv (B : Vec Ideal S1x2048x1024 .f32) (p : Vec Ideal S2048x256 .bf16) (x9 : Vec Ideal S256x1024 .bf16) (R q : ℕ) : EReal :=
  B (ix3 0 (Fin.ofNat 2048 R) (Fin.ofNat 1024 q)) + ∑ k : Fin 256, p (ix2 (Fin.ofNat 2048 R) k) * x9 (ix2 k (Fin.ofNat 1024 q))

theorem accv_at (B : Vec Ideal S1x2048x1024 .f32) (p : Vec Ideal S2048x256 .bf16) (x9 : Vec Ideal S256x1024 .bf16)
    (R q : ℕ) (hR : R < 2048) (hq : q < 1024) :
    accv B p x9 R q = B (ix3 0 ⟨R, hR⟩ ⟨q, hq⟩) + ∑ k : Fin 256, p (ix2 ⟨R, hR⟩ k) * x9 (ix2 k ⟨q, hq⟩) := by
  unfold accv
  rw [show Fin.ofNat 2048 R = ⟨R, hR⟩ from Fin.ext (Nat.mod_eq_of_lt hR), show Fin.ofNat 1024 q = ⟨q, hq⟩ from Fin.ext (Nat.mod_eq_of_lt hq)]

/-- The body's eight stores into the output block, the last first, over the earlier ones `L`. -/
def accPieces (B : Vec Ideal S1x2048x1024 .f32) (p : Vec Ideal S2048x256 .bf16) (x9 : Vec Ideal S256x1024 .bf16)
    (L : List (View.Piece (Elt Ideal) S1x2048x1024 .f32)) : List (View.Piece (Elt Ideal) S1x2048x1024 .f32) :=
  ⟨Rect.unit (s := S1x2048x1024) ![0, 1024, 768] S1x1024x256.size inb_S1x2048x1024_S1x1024x256_0_1024_768,
    k0_pay2 (View.ld p (Rect.unit (s := S2048x256) ![1024, 0] S1024x256.size inb_S2048x256_S1024x256_1024_0))
      (View.ld B (Rect.unit (s := S1x2048x1024) ![0, 1024, 768] S1x1024x256.size inb_S1x2048x1024_S1x1024x256_0_1024_768))
      (View.ld x9 (Rect.unit (s := S256x1024) ![0, 768] S256x256.size inb_S256x1024_S256x256_0_768))⟩ ::
  ⟨Rect.unit (s := S1x2048x1024) ![0, 1024, 512] S1x1024x256.size inb_S1x2048x1024_S1x1024x256_0_1024_512,
    k0_pay1 (View.ld p (Rect.unit (s := S2048x256) ![1024, 0] S1024x256.size inb_S2048x256_S1024x256_1024_0))
      (k0_pay221 (View.ld B (Rect.unit (s := S1x2048x1024) ![0, 1024, 512] S1x1024x256.size inb_S1x2048x1024_S1x1024x256_0_1024_512)))
      (View.ld x9 (Rect.unit (s := S256x1024) ![0, 512] S256x256.size inb_S256x1024_S256x256_0_512))⟩ ::
  ⟨Rect.unit (s := S1x2048x1024) ![0, 1024, 256] S1x1024x256.size inb_S1x2048x1024_S1x1024x256_0_1024_256,
    k0_pay220 (View.ld p (Rect.unit (s := S2048x256) ![1024, 0] S1024x256.size inb_S2048x256_S1024x256_1024_0))
      (View.ld B (Rect.unit (s := S1x2048x1024) ![0, 1024, 256] S1x1024x256.size inb_S1x2048x1024_S1x1024x256_0_1024_256))
      (View.ld x9 (Rect.unit (s := S256x1024) ![0, 256] S256x256.size inb_S256x1024_S256x256_0_256))⟩ ::
  ⟨Rect.unit (s := S1x2048x1024) ![0, 1024, 0] S1x1024x256.size inb_S1x2048x1024_S1x1024x256_0_1024_0,
    k0_pay219 (View.ld p (Rect.unit (s := S2048x256) ![1024, 0] S1024x256.size inb_S2048x256_S1024x256_1024_0))
      (View.ld B (Rect.unit (s := S1x2048x1024) ![0, 1024, 0] S1x1024x256.size inb_S1x2048x1024_S1x1024x256_0_1024_0))
      (View.ld x9 (Rect.unit (s := S256x1024) ![0, 0] S256x256.size inb_S256x1024_S256x256_0_0))⟩ ::
  ⟨Rect.unit (s := S1x2048x1024) ![0, 0, 768] S1x1024x256.size inb_S1x2048x1024_S1x1024x256_0_0_768,
    k0_pay218 (View.ld p (Rect.unit (s := S2048x256) ![0, 0] S1024x256.size inb_S2048x256_S1024x256_0_0))
      (View.ld B (Rect.unit (s := S1x2048x1024) ![0, 0, 768] S1x1024x256.size inb_S1x2048x1024_S1x1024x256_0_0_768))
      (View.ld x9 (Rect.unit (s := S256x1024) ![0, 768] S256x256.size inb_S256x1024_S256x256_0_768))⟩ ::
  ⟨Rect.unit (s := S1x2048x1024) ![0, 0, 512] S1x1024x256.size inb_S1x2048x1024_S1x1024x256_0_0_512,
    k0_pay217 (View.ld p (Rect.unit (s := S2048x256) ![0, 0] S1024x256.size inb_S2048x256_S1024x256_0_0))
      (View.ld B (Rect.unit (s := S1x2048x1024) ![0, 0, 512] S1x1024x256.size inb_S1x2048x1024_S1x1024x256_0_0_512))
      (View.ld x9 (Rect.unit (s := S256x1024) ![0, 512] S256x256.size inb_S256x1024_S256x256_0_512))⟩ ::
  ⟨Rect.unit (s := S1x2048x1024) ![0, 0, 256] S1x1024x256.size inb_S1x2048x1024_S1x1024x256_0_0_256,
    k0_pay216 (View.ld p (Rect.unit (s := S2048x256) ![0, 0] S1024x256.size inb_S2048x256_S1024x256_0_0))
      (View.ld B (Rect.unit (s := S1x2048x1024) ![0, 0, 256] S1x1024x256.size inb_S1x2048x1024_S1x1024x256_0_0_256))
      (View.ld x9 (Rect.unit (s := S256x1024) ![0, 256] S256x256.size inb_S256x1024_S256x256_0_256))⟩ ::
  ⟨Rect.unit (s := S1x2048x1024) ![0, 0, 0] S1x1024x256.size inb_S1x2048x1024_S1x1024x256_0_0_0,
    k0_pay215 (View.ld p (Rect.unit (s := S2048x256) ![0, 0] S1024x256.size inb_S2048x256_S1024x256_0_0))
      (View.ld B (Rect.unit (s := S1x2048x1024) ![0, 0, 0] S1x1024x256.size inb_S1x2048x1024_S1x1024x256_0_0_0))
      (View.ld x9 (Rect.unit (s := S256x1024) ![0, 0] S256x256.size inb_S256x1024_S256x256_0_0))⟩ ::
  L

set_option backward.isDefEq.respectTransparency.types false in
theorem acc_at (B : Vec Ideal S1x2048x1024 .f32) (p : Vec Ideal S2048x256 .bf16) (x9 : Vec Ideal S256x1024 .bf16)
    {sig : RefSig} {κ : Kind} {sp : Space} (v : View sig κ sp S1x2048x1024 .f32) (f : v.ty.Contents (Elt Ideal))
    (L : List (View.Piece (Elt Ideal) S1x2048x1024 .f32)) (R : Fin 2048) (n : Fin 1024) :
    v.read (Elt Ideal) (v.writes (Elt Ideal) f (accPieces B p x9 L)) (ix3 0 R n)
      = B (ix3 0 R n) + ∑ k : Fin 256, p (ix2 R k) * x9 (ix2 k n) := by
  rw [← accv_at B p x9 R.val n.val R.isLt n.isLt]
  unfold accPieces
  refine slabO v f 1024 768 1024 256 _ _ _ (accv B p x9) (fun r l => ?_) R n (fun h0 => ?_)
  rotate_left
  refine slabO v f 1024 512 1024 256 _ _ _ (accv B p x9) (fun r l => ?_) R n (fun h1 => ?_)
  rotate_left
  refine slabO v f 1024 256 1024 256 _ _ _ (accv B p x9) (fun r l => ?_) R n (fun h2 => ?_)
  rotate_left
  refine slabO v f 1024 0 1024 256 _ _ _ (accv B p x9) (fun r l => ?_) R n (fun h3 => ?_)
  rotate_left
  refine slabO v f 0 768 1024 256 _ _ _ (accv B p x9) (fun r l => ?_) R n (fun h4 => ?_)
  rotate_left
  refine slabO v f 0 512 1024 256 _ _ _ (accv B p x9) (fun r l => ?_) R n (fun h5 => ?_)
  rotate_left
  refine slabO v f 0 256 1024 256 _ _ _ (accv B p x9) (fun r l => ?_) R n (fun h6 => ?_)
  rotate_left
  refine slabO v f 0 0 1024 256 _ _ _ (accv B p x9) (fun r l => ?_) R n (fun h7 => ?_)
  rotate_left
  · exfalso; omega
  all_goals
    rw [accv_at B p x9 _ _ (by omega) (by omega)]
    unfold_payloads
    pointwise []

end Cert.KernelIdeal.Ffn
-- ==== Proof.FfnSpec.lean ====
module

public import proofs.«01_k».proof.Proof.Common

@[expose] public section

set_option maxRecDepth 16384

noncomputable section

open Idealize.ShloMosaic Idealize.ShloMosaic.TcCoe Idealize.SL.Sem

namespace Cert.Common

/-- One element of a row of 1024 numbers `x + g * o` after the root-mean-square norm with gain `fg`: the mean of the squares
    is taken over the row, and the small number added to it is the float word both programs spell. -/
def normed (x g o fg : Fin 1024 → EReal) (l : Fin 1024) : EReal :=
  (x l + g l * o l) * Ideal.rsqrt (Ideal.div (∑ k, (x k + g k * o k) * (x k + g k * o k)) (Ideal.ofBits FTy.f32 0x44800000#32)
    + Ideal.ofBits FTy.f32 0x358637BD#32) * fg l

/-! ## The convolutional feed-forward, in the numbers of its arrays -/

section Ffn

variable (H : Fin 8 → Fin 4096 → Fin 1024 → EReal) (W : Fin 1024 → Fin 5632 → EReal) (cw : Fin 3 → Fin 3 → Fin 5632 → EReal)
  (cb : Fin 5632 → EReal) (Wd : Fin 2816 → Fin 1024 → EReal) (X : Fin 8 → Fin 4096 → Fin 1024 → EReal) (g : Fin 8 → Fin 1024 → EReal)
  (fg : Fin 1024 → EReal)

/-- The up-projected image with a border of zeros: rows and columns 1 to 64 are the image's. -/
def upRow (b : Fin 8) (r w : ℕ) (n : Fin 5632) : EReal :=
  if (1 ≤ r ∧ r ≤ 64) ∧ (1 ≤ w ∧ w ≤ 64) then ∑ k, H b (Fin.ofNat 4096 (64 * (r - 1) + (w - 1))) k * W k n else 0

/-- The depthwise convolution of three by three taps, and its bias. -/
def conv (b : Fin 8) (y x : ℕ) (n : Fin 5632) : EReal :=
  cb n + upRow H W b y x n * cw 0 0 n + upRow H W b y (x + 1) n * cw 0 1 n + upRow H W b y (x + 2) n * cw 0 2 n
    + upRow H W b (y + 1) x n * cw 1 0 n + upRow H W b (y + 1) (x + 1) n * cw 1 1 n + upRow H W b (y + 1) (x + 2) n * cw 1 2 n
    + upRow H W b (y + 2) x n * cw 2 0 n + upRow H W b (y + 2) (x + 1) n * cw 2 1 n + upRow H W b (y + 2) (x + 2) n * cw 2 2 n

/-- The gated product at a position and a hidden channel. -/
def hiddenAt (b : Fin 8) (s : Fin 4096) (q : Fin 2816) : EReal :=
  gelu (conv H W cw cb b (s.val / 64) (s.val % 64) ⟨q.val, by omega⟩)
    * conv H W cw cb b (s.val / 64) (s.val % 64) ⟨2816 + q.val, by omega⟩

/-- The down-projection. -/
def down (b : Fin 8) (s : Fin 4096) (n : Fin 1024) : EReal := ∑ q, hiddenAt H W cw cb b s q * Wd q n

/-- The layer's output: the gated residual, normalized. -/
def ffnOut (b : Fin 8) (s : Fin 4096) (n : Fin 1024) : EReal := normed (X b s) (g b) (down H W cw cb Wd b s) fg n

end Ffn

end Cert.Common
-- ==== Proof.FfnNorm.lean ====
module

public import proofs.«01_k».proof.Proof.FfnAcc
public import proofs.«01_k».proof.Proof.FfnSpec
public import proofs.«01_k».proof.Proof.Gen.KernelIdeal.Loops

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

/-! ## The last loop: the residual and the norm, 256 rows per trip -/

/-- A load of whole rows reads them at the shifted row. -/
theorem load7 (M : Memref sig .tc .vmem S1x2048x1024 .f32) (X : BufTy.Contents (Elt Ideal) M.view.ty) (k : Fin k0_t3_loop.trips)
    (inb : ∀ i, k0_off7 k i + (![1, 256, 1024] : Fin 3 → ℕ) i ≤ S1x2048x1024.size i) (r : Fin 256) (n : Fin 1024)
    (h : 256 * k.val + r.val < 2048) :
    View.readAt (Elt Ideal) M.view (Rect.unit (s := S1x2048x1024) (k0_off7 k) ![1, 256, 1024] inb).toLoadRect X (ix3 0 r n)
      = M.view.read (Elt Ideal) X (ix3 0 ⟨256 * k.val + r.val, h⟩ n) := by
  have e := k0_off7_eq k
  generalize k0_off7 k = off at *
  subst e
  exact (ld3 (M.view.read (Elt Ideal) X) (256 * k.val) 0 inb r n h (by omega)).trans (by simp)

/-- Loop `k0_t3`, one trip: one store of 256 normed rows. -/
theorem trip3_at
    (𝒱 : Variants) (c : Dev nD) (bd : Option 𝒱.V) (i : grid0.Coords) (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (h2 : k0_cond2 i = 1#1) (X13 : BufTy.Contents (Elt Ideal) arg13.view.ty)
    (X14 : BufTy.Contents (Elt Ideal) arg14.view.ty) (X15 : BufTy.Contents (Elt Ideal) arg15.view.ty) (k : Fin k0_t3_loop.trips)
    (f : BufTy.Contents (Elt Ideal) arg16.view.ty) :
    ∃ P : Vec Ideal S1x256x1024 .f32,
      tripL_k0_t3 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 h2 X13 X14 X15 k f
        = [⟨Rect.unit (s := S1x2048x1024) (k0_off7 k) S1x256x1024.size (k0_off7_inb i k h2), P⟩]
      ∧ ∀ (r : Fin 256) (l : Fin 1024) (h : 256 * k.val + r.val < 2048), P (ix3 0 r l)
        = normed (fun n => arg13.view.read (Elt Ideal) X13 (ix3 0 ⟨256 * k.val + r.val, h⟩ n))
            (fun n => arg14.view.read (Elt Ideal) X14 (ix3 0 0 n))
            (fun n => arg16.view.read (Elt Ideal) f (ix3 0 ⟨256 * k.val + r.val, h⟩ n))
            (fun n => arg15.view.read (Elt Ideal) X15 (ix2 0 n)) l := by
  unfold tripL_k0_t3 trip_k0_t3
  dsimp only
  refine ⟨_, rfl, fun r l h => ?_⟩
  unfold_payloads
  pointwise []
  have h14 : ∀ n : Fin 1024, View.readAt (Elt Ideal) arg14.view (Rect.unit (s := S1x1x1024) ![0, 0, 0] ![1, 1, 1024]
      inb_S1x1x1024_S1x1x1024_0_0_0).toLoadRect X14 (ix3 0 0 n) = arg14.view.read (Elt Ideal) X14 (ix3 0 0 n) := fun n =>
    (ld3 (arg14.view.read (Elt Ideal) X14) 0 0 _ 0 n (by decide) (by omega)).trans (by simp)
  have h15 : ∀ n : Fin 1024, View.readAt (Elt Ideal) arg15.view (Rect.unit (s := S1x1024) ![0, 0] ![1, 1024]
      inb_S1x1024_S1x1024_0_0).toLoadRect X15 (ix2 0 n) = arg15.view.read (Elt Ideal) X15 (ix2 0 n) := fun n =>
    (ld2 (arg15.view.read (Elt Ideal) X15) 0 0 _ 0 n (by decide) (by omega)).trans (by simp)
  simp only [load7 _ _ _ _ _ _ h, h14, h15]
  rfl

/-- A loop that rewrites 256 whole rows per trip from the rows it finds there. -/
theorem loop_rows {sig : RefSig} {κ : Kind} {sp : Space} (v : View sig κ sp S1x2048x1024 .f32) (G : v.ty.Contents (Elt Ideal))
    (pb : ℕ → List (View.Piece (Elt Ideal) S1x2048x1024 .f32)) (H : Fin 2048 → Fin 1024 → EReal) (hz : pb 0 = [])
    (hs : ∀ k < 8, ∃ (off : Fin 3 → ℕ) (inb : ∀ a, off a + S1x256x1024.size a ≤ S1x2048x1024.size a) (P : Vec Ideal S1x256x1024 .f32),
      off = ![0, 256 * k, 0] ∧
      pb (k + 1) = (⟨Rect.unit (s := S1x2048x1024) off S1x256x1024.size inb, P⟩ : View.Piece (Elt Ideal) S1x2048x1024 .f32) :: pb k
      ∧ ((∀ (R : Fin 2048) (q : Fin 1024), 256 * k ≤ R.val →
          v.read (Elt Ideal) (v.writes (Elt Ideal) G (pb k)) (ix3 0 R q) = v.read (Elt Ideal) G (ix3 0 R q)) →
        ∀ (r : Fin 256) (l : Fin 1024) (h : 256 * k + r.val < 2048), P (ix3 0 r l) = H ⟨256 * k + r.val, h⟩ l))
    (n : ℕ) (hn : n ≤ 8) (R : Fin 2048) (q : Fin 1024) :
    v.read (Elt Ideal) (v.writes (Elt Ideal) G (pb n)) (ix3 0 R q)
      = if R.val < 256 * n then H R q else v.read (Elt Ideal) G (ix3 0 R q) := by
  induction n generalizing R q with
  | zero => rw [hz, if_neg (by omega)]; rfl
  | succ k ih =>
    obtain ⟨off, inb, P, ho, he, hP⟩ := hs k (by omega)
    have hP := hP fun R q h => (ih (by omega) R q).trans (if_neg (by omega))
    rw [he]
    by_cases hR : 256 * k ≤ R.val ∧ R.val < 256 * k + 256
    · rw [if_pos (by omega)]
      refine (View.read_writes_cons_unit_of_mem v G inb P (pb k) (ix3 0 R q)
        (ix3 0 ⟨R.val - 256 * k, by omega⟩ q) ho ?_).trans ((hP _ _ (by omega)).trans ?_)
      · intro a
        fin_cases a
        · rfl
        · show R.val = 256 * k + (R.val - 256 * k); omega
        · show q.val = 0 + q.val; omega
      · congr 1
        exact Fin.ext (show 256 * k + (R.val - 256 * k) = R.val by omega)
    · refine (View.read_writes_cons_unit_of_not_mem v G inb P (pb k) (ix3 0 R q) ho 1 ?_).trans ((ih (by omega) R q).trans ?_)
      · show R.val < 256 * k ∨ 256 * k + 256 ≤ R.val
        omega
      · by_cases hc : R.val < 256 * k
        · rw [if_pos hc, if_pos (by omega)]
        · rw [if_neg hc, if_neg (by omega)]

theorem pb3_at
    (𝒱 : Variants) (c : Dev nD) (bd : Option 𝒱.V) (i : grid0.Coords) (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (h2 : k0_cond2 i = 1#1) (X13 : BufTy.Contents (Elt Ideal) arg13.view.ty)
    (X14 : BufTy.Contents (Elt Ideal) arg14.view.ty) (X15 : BufTy.Contents (Elt Ideal) arg15.view.ty)
    (G : BufTy.Contents (Elt Ideal) arg16.view.ty) (R : Fin 2048) (q : Fin 1024) :
    arg16.view.read (Elt Ideal) (arg16.view.writes (Elt Ideal) G (pb_k0_t3 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 h2 X13 X14 X15 G k0_t3_loop.trips)) (ix3 0 R q)
      = normed (fun n => arg13.view.read (Elt Ideal) X13 (ix3 0 R n))
          (fun n => arg14.view.read (Elt Ideal) X14 (ix3 0 0 n))
          (fun n => arg16.view.read (Elt Ideal) G (ix3 0 R n))
          (fun n => arg15.view.read (Elt Ideal) X15 (ix2 0 n)) q := by
  have ht : k0_t3_loop.trips = 8 := by decide
  refine (loop_rows arg16.view G _ (fun R q => normed (fun n => arg13.view.read (Elt Ideal) X13 (ix3 0 R n))
      (fun n => arg14.view.read (Elt Ideal) X14 (ix3 0 0 n)) (fun n => arg16.view.read (Elt Ideal) G (ix3 0 R n))
      (fun n => arg15.view.read (Elt Ideal) X15 (ix2 0 n)) q) ?_ (fun k hk => ?_)
    k0_t3_loop.trips (le_of_eq ht) R q).trans (if_pos (by omega))
  · rfl
  · have hk' : k < k0_t3_loop.trips := lt_of_lt_of_eq hk (by decide)
    obtain ⟨P, h1, hP⟩ := trip3_at
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 h2 X13 X14 X15 ⟨k, hk'⟩ (arg16.view.writes (Elt Ideal) G (pb_k0_t3 (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 h2 X13 X14 X15 G k))
    refine ⟨k0_off7 ⟨k, hk'⟩, k0_off7_inb i ⟨k, hk'⟩ h2, P, k0_off7_eq ⟨k, hk'⟩, ?_, fun hr r l h => ?_⟩
    · refine (pb_k0_t3_succ (F := Ideal)
        𝒱 c bd i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 h2 X13 X14 X15 G ⟨k, hk'⟩).trans ?_
      rw [h1]; rfl
    · refine (hP r l h).trans ?_
      rw [funext fun n => hr ⟨256 * k + r.val, h⟩ n (Nat.le_add_right _ _)]

end Cert.KernelIdeal.Ffn
-- ==== Proof.FfnRunA.lean ====
module

public import proofs.«01_k».proof.Proof.FfnKit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The first chunk of a row block: the output block starts from zero. The output block and the two
    scratch buffers are taken at given contents, and what the body stores into the output block is found. -/
def runA (c : Dev nD) (i : grid0.Coords)
    (arg3 : Memref sig .tc .vmem S1x64x1024 .bf16) (harg3 : arg3.IsWhole)
    (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (hc0 : cond0_0 i) (hc1 : ¬cond0_1 i)
    (x0 : Vec Ideal S1x64x1024 .bf16) (x1 : Vec Ideal S1x2048x1024 .bf16) (x2 : Vec Ideal S1x64x1024 .bf16)
    (x3 : Vec Ideal S1024x256 .bf16) (x4 : Vec Ideal S1024x256 .bf16) (x5 : Vec Ideal S9x256 .f32)
    (x6 : Vec Ideal S9x256 .f32) (x7 : Vec Ideal S1x256 .f32) (x8 : Vec Ideal S1x256 .f32)
    (x9 : Vec Ideal S256x1024 .bf16) (x10 : Vec Ideal S1x2048x1024 .f32) (x11 : Vec Ideal S1x1x1024 .f32)
    (x12 : Vec Ideal S1x1024 .f32)
    (xo : Vec Ideal S1x2048x1024 .f32) (xs : Vec Ideal S4x2192x128 .f32) (xp : Vec Ideal S2048x256 .bf16) :
    { L : BufTy.Contents (Elt Ideal) arg16.view.ty //
      ∀ (E : Set ℕ) (K : PUnit → sProp 𝕄),
        iprop(owns (c : Thread nD τ) arg3 fullShare x0 ∗ owns (c : Thread nD τ) arg4 fullShare x1 ∗
            owns (c : Thread nD τ) arg5 fullShare x2 ∗ owns (c : Thread nD τ) arg6 fullShare x3 ∗
            owns (c : Thread nD τ) arg7 fullShare x4 ∗ owns (c : Thread nD τ) arg8 fullShare x5 ∗
            owns (c : Thread nD τ) arg9 fullShare x6 ∗ owns (c : Thread nD τ) arg10 fullShare x7 ∗
            owns (c : Thread nD τ) arg11 fullShare x8 ∗ owns (c : Thread nD τ) arg12 fullShare x9 ∗
            owns (c : Thread nD τ) arg13 fullShare x10 ∗ owns (c : Thread nD τ) arg14 fullShare x11 ∗
            owns (c : Thread nD τ) arg15 fullShare x12 ∗ owns (c : Thread nD τ) arg16 fullShare xo ∗
            owns (c : Thread nD τ) arg17 fullShare xs ∗ owns (c : Thread nD τ) arg18 fullShare xp
            ∗ (iprop(owns (c : Thread nD τ) arg3 fullShare x0 ∗ owns (c : Thread nD τ) arg4 fullShare x1 ∗
            owns (c : Thread nD τ) arg5 fullShare x2 ∗ owns (c : Thread nD τ) arg6 fullShare x3 ∗
            owns (c : Thread nD τ) arg7 fullShare x4 ∗ owns (c : Thread nD τ) arg8 fullShare x5 ∗
            owns (c : Thread nD τ) arg9 fullShare x6 ∗ owns (c : Thread nD τ) arg10 fullShare x7 ∗
            owns (c : Thread nD τ) arg11 fullShare x8 ∗ owns (c : Thread nD τ) arg12 fullShare x9 ∗
            owns (c : Thread nD τ) arg13 fullShare x10 ∗ owns (c : Thread nD τ) arg14 fullShare x11 ∗
            owns (c : Thread nD τ) arg15 fullShare x12 ∗ (arg16.view.loc (c : Thread nD τ) ↦[arg16.view.set]{fullShare} L) ∗
            (∃ d, owns (c : Thread nD τ) arg17 fullShare d) ∗ (∃ d, owns (c : Thread nD τ) arg18 fullShare d)) -∗ K ⟨⟩))
          ⊢ wp frame (wpE (defs₀ (F := Ideal)) Variants.none c none) E
            (cc0_conv_ffn i
              arg3 harg3 arg4 harg4 arg5 harg5 arg6 harg6 arg7 harg7 arg8 harg8 arg9 harg9 arg10 harg10 arg11
              harg11 arg12 harg12 arg13 harg13 arg14 harg14 arg15 harg15 arg16 harg16 arg17 harg17 arg18 harg18) K } := by
  refine ⟨?_, fun E K => ?run⟩
  case run =>
    simp only [cc0_conv_ffn_eq_skeleton]; unfold cc0_conv_ffn_skel
    simp only [k0_part52_eq_skeleton, k0_part1_eq_skeleton, k0_part53_eq_skeleton, k0_part54_eq_skeleton, k0_part55_eq_skeleton,
      k0_part56_eq_skeleton, k0_part57_eq_skeleton, k0_part58_eq_skeleton, k0_part59_eq_skeleton,
      k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%fs0, %hfs0, HS0⟩, ⟨%fs1, %hfs1, HS1⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hfs0
    obtain rfl := harg18.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexact H13
    isplitl [HS0]
    · iexists _, _; isplitr; swap; · iexact HS0
      ipureintro; rfl
    iexists _, _; isplitr; swap; · iexact HS1
    ipureintro; rfl

end Cert.KernelIdeal.Ffn
-- ==== Proof.FfnRunB.lean ====
module

public import proofs.«01_k».proof.Proof.FfnKit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- A grid point with more chunks before it and after it. The output block and the two
    scratch buffers are taken at given contents, and what the body stores into the output block is found. -/
def runB (c : Dev nD) (i : grid0.Coords)
    (arg3 : Memref sig .tc .vmem S1x64x1024 .bf16) (harg3 : arg3.IsWhole)
    (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (hc0 : ¬cond0_0 i) (hc1 : ¬cond0_1 i)
    (x0 : Vec Ideal S1x64x1024 .bf16) (x1 : Vec Ideal S1x2048x1024 .bf16) (x2 : Vec Ideal S1x64x1024 .bf16)
    (x3 : Vec Ideal S1024x256 .bf16) (x4 : Vec Ideal S1024x256 .bf16) (x5 : Vec Ideal S9x256 .f32)
    (x6 : Vec Ideal S9x256 .f32) (x7 : Vec Ideal S1x256 .f32) (x8 : Vec Ideal S1x256 .f32)
    (x9 : Vec Ideal S256x1024 .bf16) (x10 : Vec Ideal S1x2048x1024 .f32) (x11 : Vec Ideal S1x1x1024 .f32)
    (x12 : Vec Ideal S1x1024 .f32)
    (xo : Vec Ideal S1x2048x1024 .f32) (xs : Vec Ideal S4x2192x128 .f32) (xp : Vec Ideal S2048x256 .bf16) :
    { L : BufTy.Contents (Elt Ideal) arg16.view.ty //
      ∀ (E : Set ℕ) (K : PUnit → sProp 𝕄),
        iprop(owns (c : Thread nD τ) arg3 fullShare x0 ∗ owns (c : Thread nD τ) arg4 fullShare x1 ∗
            owns (c : Thread nD τ) arg5 fullShare x2 ∗ owns (c : Thread nD τ) arg6 fullShare x3 ∗
            owns (c : Thread nD τ) arg7 fullShare x4 ∗ owns (c : Thread nD τ) arg8 fullShare x5 ∗
            owns (c : Thread nD τ) arg9 fullShare x6 ∗ owns (c : Thread nD τ) arg10 fullShare x7 ∗
            owns (c : Thread nD τ) arg11 fullShare x8 ∗ owns (c : Thread nD τ) arg12 fullShare x9 ∗
            owns (c : Thread nD τ) arg13 fullShare x10 ∗ owns (c : Thread nD τ) arg14 fullShare x11 ∗
            owns (c : Thread nD τ) arg15 fullShare x12 ∗ owns (c : Thread nD τ) arg16 fullShare xo ∗
            owns (c : Thread nD τ) arg17 fullShare xs ∗ owns (c : Thread nD τ) arg18 fullShare xp
            ∗ (iprop(owns (c : Thread nD τ) arg3 fullShare x0 ∗ owns (c : Thread nD τ) arg4 fullShare x1 ∗
            owns (c : Thread nD τ) arg5 fullShare x2 ∗ owns (c : Thread nD τ) arg6 fullShare x3 ∗
            owns (c : Thread nD τ) arg7 fullShare x4 ∗ owns (c : Thread nD τ) arg8 fullShare x5 ∗
            owns (c : Thread nD τ) arg9 fullShare x6 ∗ owns (c : Thread nD τ) arg10 fullShare x7 ∗
            owns (c : Thread nD τ) arg11 fullShare x8 ∗ owns (c : Thread nD τ) arg12 fullShare x9 ∗
            owns (c : Thread nD τ) arg13 fullShare x10 ∗ owns (c : Thread nD τ) arg14 fullShare x11 ∗
            owns (c : Thread nD τ) arg15 fullShare x12 ∗ (arg16.view.loc (c : Thread nD τ) ↦[arg16.view.set]{fullShare} L) ∗
            (∃ d, owns (c : Thread nD τ) arg17 fullShare d) ∗ (∃ d, owns (c : Thread nD τ) arg18 fullShare d)) -∗ K ⟨⟩))
          ⊢ wp frame (wpE (defs₀ (F := Ideal)) Variants.none c none) E
            (cc0_conv_ffn i
              arg3 harg3 arg4 harg4 arg5 harg5 arg6 harg6 arg7 harg7 arg8 harg8 arg9 harg9 arg10 harg10 arg11
              harg11 arg12 harg12 arg13 harg13 arg14 harg14 arg15 harg15 arg16 harg16 arg17 harg17 arg18 harg18) K } := by
  refine ⟨?_, fun E K => ?run⟩
  case run =>
    simp only [cc0_conv_ffn_eq_skeleton]; unfold cc0_conv_ffn_skel
    simp only [k0_part52_eq_skeleton, k0_part53_eq_skeleton, k0_part54_eq_skeleton, k0_part55_eq_skeleton,
      k0_part56_eq_skeleton, k0_part57_eq_skeleton, k0_part58_eq_skeleton, k0_part59_eq_skeleton,
      k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%fs0, %hfs0, HS0⟩, ⟨%fs1, %hfs1, HS1⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hfs0
    obtain rfl := harg18.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexact H13
    isplitl [HS0]
    · iexists _, _; isplitr; swap; · iexact HS0
      ipureintro; rfl
    iexists _, _; isplitr; swap; · iexact HS1
    ipureintro; rfl

end Cert.KernelIdeal.Ffn
-- ==== Proof.FfnRunC.lean ====
module

public import proofs.«01_k».proof.Proof.FfnKit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The last chunk of a row block: the sum is finished and normalised. The output block and the two
    scratch buffers are taken at given contents, and what the body stores into the output block is found. -/
def runC (c : Dev nD) (i : grid0.Coords)
    (arg3 : Memref sig .tc .vmem S1x64x1024 .bf16) (harg3 : arg3.IsWhole)
    (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (hc0 : ¬cond0_0 i) (hc1 : cond0_1 i)
    (x0 : Vec Ideal S1x64x1024 .bf16) (x1 : Vec Ideal S1x2048x1024 .bf16) (x2 : Vec Ideal S1x64x1024 .bf16)
    (x3 : Vec Ideal S1024x256 .bf16) (x4 : Vec Ideal S1024x256 .bf16) (x5 : Vec Ideal S9x256 .f32)
    (x6 : Vec Ideal S9x256 .f32) (x7 : Vec Ideal S1x256 .f32) (x8 : Vec Ideal S1x256 .f32)
    (x9 : Vec Ideal S256x1024 .bf16) (x10 : Vec Ideal S1x2048x1024 .f32) (x11 : Vec Ideal S1x1x1024 .f32)
    (x12 : Vec Ideal S1x1024 .f32)
    (xo : Vec Ideal S1x2048x1024 .f32) (xs : Vec Ideal S4x2192x128 .f32) (xp : Vec Ideal S2048x256 .bf16) :
    { L : BufTy.Contents (Elt Ideal) arg16.view.ty //
      ∀ (E : Set ℕ) (K : PUnit → sProp 𝕄),
        iprop(owns (c : Thread nD τ) arg3 fullShare x0 ∗ owns (c : Thread nD τ) arg4 fullShare x1 ∗
            owns (c : Thread nD τ) arg5 fullShare x2 ∗ owns (c : Thread nD τ) arg6 fullShare x3 ∗
            owns (c : Thread nD τ) arg7 fullShare x4 ∗ owns (c : Thread nD τ) arg8 fullShare x5 ∗
            owns (c : Thread nD τ) arg9 fullShare x6 ∗ owns (c : Thread nD τ) arg10 fullShare x7 ∗
            owns (c : Thread nD τ) arg11 fullShare x8 ∗ owns (c : Thread nD τ) arg12 fullShare x9 ∗
            owns (c : Thread nD τ) arg13 fullShare x10 ∗ owns (c : Thread nD τ) arg14 fullShare x11 ∗
            owns (c : Thread nD τ) arg15 fullShare x12 ∗ owns (c : Thread nD τ) arg16 fullShare xo ∗
            owns (c : Thread nD τ) arg17 fullShare xs ∗ owns (c : Thread nD τ) arg18 fullShare xp
            ∗ (iprop(owns (c : Thread nD τ) arg3 fullShare x0 ∗ owns (c : Thread nD τ) arg4 fullShare x1 ∗
            owns (c : Thread nD τ) arg5 fullShare x2 ∗ owns (c : Thread nD τ) arg6 fullShare x3 ∗
            owns (c : Thread nD τ) arg7 fullShare x4 ∗ owns (c : Thread nD τ) arg8 fullShare x5 ∗
            owns (c : Thread nD τ) arg9 fullShare x6 ∗ owns (c : Thread nD τ) arg10 fullShare x7 ∗
            owns (c : Thread nD τ) arg11 fullShare x8 ∗ owns (c : Thread nD τ) arg12 fullShare x9 ∗
            owns (c : Thread nD τ) arg13 fullShare x10 ∗ owns (c : Thread nD τ) arg14 fullShare x11 ∗
            owns (c : Thread nD τ) arg15 fullShare x12 ∗ (arg16.view.loc (c : Thread nD τ) ↦[arg16.view.set]{fullShare} L) ∗
            (∃ d, owns (c : Thread nD τ) arg17 fullShare d) ∗ (∃ d, owns (c : Thread nD τ) arg18 fullShare d)) -∗ K ⟨⟩))
          ⊢ wp frame (wpE (defs₀ (F := Ideal)) Variants.none c none) E
            (cc0_conv_ffn i
              arg3 harg3 arg4 harg4 arg5 harg5 arg6 harg6 arg7 harg7 arg8 harg8 arg9 harg9 arg10 harg10 arg11
              harg11 arg12 harg12 arg13 harg13 arg14 harg14 arg15 harg15 arg16 harg16 arg17 harg17 arg18 harg18) K } := by
  refine ⟨?_, fun E K => ?run⟩
  case run =>
    simp only [cc0_conv_ffn_eq_skeleton]; unfold cc0_conv_ffn_skel
    simp only [k0_part52_eq_skeleton, k0_part53_eq_skeleton, k0_part54_eq_skeleton, k0_part55_eq_skeleton,
      k0_part56_eq_skeleton, k0_part57_eq_skeleton, k0_part58_eq_skeleton, k0_part59_eq_skeleton,
      k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%fs0, %hfs0, HS0⟩, ⟨%fs1, %hfs1, HS1⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hfs0
    obtain rfl := harg18.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexact H13
    isplitl [HS0]
    · iexists _, _; isplitr; swap; · iexact HS0
      ipureintro; rfl
    iexists _, _; isplitr; swap; · iexact HS1
    ipureintro; rfl

end Cert.KernelIdeal.Ffn
-- ==== Proof.FfnVals.lean ====
module

public import proofs.«01_k».proof.Proof.FfnGate
public import proofs.«01_k».proof.Proof.FfnNorm
public import proofs.«01_k».proof.Proof.FfnRunA
public import proofs.«01_k».proof.Proof.FfnRunB
public import proofs.«01_k».proof.Proof.FfnRunC
public import Idealize.ShloMosaic.Lib.Pipeline.ReadBack

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Common

/-! ## What each case of the body leaves in the output block, in the blocks read -/

/-- The output block after one block of columns: the product of the gated rows with the down-projection's rows added. -/
def stepv (p : ℕ)
    (x0 : Vec Ideal S1x64x1024 .bf16) (x1 : Vec Ideal S1x2048x1024 .bf16) (x2 : Vec Ideal S1x64x1024 .bf16)
    (x3 : Vec Ideal S1024x256 .bf16) (x4 : Vec Ideal S1024x256 .bf16) (x5 : Vec Ideal S9x256 .f32)
    (x6 : Vec Ideal S9x256 .f32) (x7 : Vec Ideal S1x256 .f32) (x8 : Vec Ideal S1x256 .f32)
    (x9 : Vec Ideal S256x1024 .bf16) (B : Vec Ideal S1x2048x1024 .f32) (R : Fin 2048) (n : Fin 1024) : EReal :=
  B (ix3 0 R n) + ∑ q : Fin 256, gat (upv p x0 x1 x2 x3 x4) x5 x6 x7 x8 R.val q * x9 (ix2 q n)

/-- The second scratch buffer after both loops, over the first one's contents `X`. -/
def pbuf (c : Dev nD) (i : grid0.Coords)
    (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (x5 x6 : Vec Ideal S9x256 .f32) (x7 x8 : Vec Ideal S1x256 .f32) (xp : Vec Ideal S2048x256 .bf16)
    (X : BufTy.Contents (Elt Ideal) arg17.view.ty) : Vec Ideal S2048x256 .bf16 :=
  arg18.view.read (Elt Ideal) (arg18.view.writes (Elt Ideal) (harg18.unread xp) (pb_k0_t2 (F := Ideal)
        Variants.none c none i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      (iota .tc S8x128 32 [0] iota_S8x128_d0_w32)
      (k0_pay194 (View.readAt (Elt Ideal) arg8.view (Rect.unit (s := S9x256) ![0, 128] S1x128.size inb_S9x256_S1x128_0_128).toLoadRect (harg8.unread x5)))
      (k0_pay195 (View.readAt (Elt Ideal) arg8.view (Rect.unit (s := S9x256) ![1, 128] S1x128.size inb_S9x256_S1x128_1_128).toLoadRect (harg8.unread x5)))
      (k0_pay196 (View.readAt (Elt Ideal) arg8.view (Rect.unit (s := S9x256) ![2, 128] S1x128.size inb_S9x256_S1x128_2_128).toLoadRect (harg8.unread x5)))
      (k0_pay197 (View.readAt (Elt Ideal) arg8.view (Rect.unit (s := S9x256) ![3, 128] S1x128.size inb_S9x256_S1x128_3_128).toLoadRect (harg8.unread x5)))
      (k0_pay198 (View.readAt (Elt Ideal) arg8.view (Rect.unit (s := S9x256) ![4, 128] S1x128.size inb_S9x256_S1x128_4_128).toLoadRect (harg8.unread x5)))
      (k0_pay199 (View.readAt (Elt Ideal) arg8.view (Rect.unit (s := S9x256) ![5, 128] S1x128.size inb_S9x256_S1x128_5_128).toLoadRect (harg8.unread x5)))
      (k0_pay200 (View.readAt (Elt Ideal) arg8.view (Rect.unit (s := S9x256) ![6, 128] S1x128.size inb_S9x256_S1x128_6_128).toLoadRect (harg8.unread x5)))
      (k0_pay201 (View.readAt (Elt Ideal) arg8.view (Rect.unit (s := S9x256) ![7, 128] S1x128.size inb_S9x256_S1x128_7_128).toLoadRect (harg8.unread x5)))
      (k0_pay202 (View.readAt (Elt Ideal) arg8.view (Rect.unit (s := S9x256) ![8, 128] S1x128.size inb_S9x256_S1x128_8_128).toLoadRect (harg8.unread x5)))
      (k0_pay203 (View.readAt (Elt Ideal) arg9.view (Rect.unit (s := S9x256) ![0, 128] S1x128.size inb_S9x256_S1x128_0_128).toLoadRect (harg9.unread x6)))
      (k0_pay204 (View.readAt (Elt Ideal) arg9.view (Rect.unit (s := S9x256) ![1, 128] S1x128.size inb_S9x256_S1x128_1_128).toLoadRect (harg9.unread x6)))
      (View.readAt (Elt Ideal) arg9.view (Rect.unit (s := S9x256) ![2, 128] S1x128.size inb_S9x256_S1x128_2_128).toLoadRect (harg9.unread x6))
      (View.readAt (Elt Ideal) arg9.view (Rect.unit (s := S9x256) ![3, 128] S1x128.size inb_S9x256_S1x128_3_128).toLoadRect (harg9.unread x6))
      (View.readAt (Elt Ideal) arg9.view (Rect.unit (s := S9x256) ![4, 128] S1x128.size inb_S9x256_S1x128_4_128).toLoadRect (harg9.unread x6))
      (View.readAt (Elt Ideal) arg9.view (Rect.unit (s := S9x256) ![5, 128] S1x128.size inb_S9x256_S1x128_5_128).toLoadRect (harg9.unread x6))
      (View.readAt (Elt Ideal) arg9.view (Rect.unit (s := S9x256) ![6, 128] S1x128.size inb_S9x256_S1x128_6_128).toLoadRect (harg9.unread x6))
      (View.readAt (Elt Ideal) arg9.view (Rect.unit (s := S9x256) ![7, 128] S1x128.size inb_S9x256_S1x128_7_128).toLoadRect (harg9.unread x6))
      (View.readAt (Elt Ideal) arg9.view (Rect.unit (s := S9x256) ![8, 128] S1x128.size inb_S9x256_S1x128_8_128).toLoadRect (harg9.unread x6))
      (View.readAt (Elt Ideal) arg10.view (Rect.unit (s := S1x256) ![0, 128] S1x128.size inb_S1x256_S1x128_0_128).toLoadRect (harg10.unread x7))
      (View.readAt (Elt Ideal) arg11.view (Rect.unit (s := S1x256) ![0, 128] S1x128.size inb_S1x256_S1x128_0_128).toLoadRect (harg11.unread x8))
      X k0_t2_loop.trips ++ pb_k0_t1 (F := Ideal)
        Variants.none c none i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      (iota .tc S8x128 32 [0] iota_S8x128_d0_w32)
      (k0_pay173 (View.readAt (Elt Ideal) arg8.view (Rect.unit (s := S9x256) ![0, 0] S1x128.size inb_S9x256_S1x128_0_0).toLoadRect (harg8.unread x5)))
      (k0_pay174 (View.readAt (Elt Ideal) arg8.view (Rect.unit (s := S9x256) ![1, 0] S1x128.size inb_S9x256_S1x128_1_0).toLoadRect (harg8.unread x5)))
      (k0_pay175 (View.readAt (Elt Ideal) arg8.view (Rect.unit (s := S9x256) ![2, 0] S1x128.size inb_S9x256_S1x128_2_0).toLoadRect (harg8.unread x5)))
      (k0_pay176 (View.readAt (Elt Ideal) arg8.view (Rect.unit (s := S9x256) ![3, 0] S1x128.size inb_S9x256_S1x128_3_0).toLoadRect (harg8.unread x5)))
      (k0_pay177 (View.readAt (Elt Ideal) arg8.view (Rect.unit (s := S9x256) ![4, 0] S1x128.size inb_S9x256_S1x128_4_0).toLoadRect (harg8.unread x5)))
      (k0_pay178 (View.readAt (Elt Ideal) arg8.view (Rect.unit (s := S9x256) ![5, 0] S1x128.size inb_S9x256_S1x128_5_0).toLoadRect (harg8.unread x5)))
      (k0_pay179 (View.readAt (Elt Ideal) arg8.view (Rect.unit (s := S9x256) ![6, 0] S1x128.size inb_S9x256_S1x128_6_0).toLoadRect (harg8.unread x5)))
      (k0_pay180 (View.readAt (Elt Ideal) arg8.view (Rect.unit (s := S9x256) ![7, 0] S1x128.size inb_S9x256_S1x128_7_0).toLoadRect (harg8.unread x5)))
      (k0_pay181 (View.readAt (Elt Ideal) arg8.view (Rect.unit (s := S9x256) ![8, 0] S1x128.size inb_S9x256_S1x128_8_0).toLoadRect (harg8.unread x5)))
      (k0_pay182 (View.readAt (Elt Ideal) arg9.view (Rect.unit (s := S9x256) ![0, 0] S1x128.size inb_S9x256_S1x128_0_0).toLoadRect (harg9.unread x6)))
      (k0_pay183 (View.readAt (Elt Ideal) arg9.view (Rect.unit (s := S9x256) ![1, 0] S1x128.size inb_S9x256_S1x128_1_0).toLoadRect (harg9.unread x6)))
      (k0_pay184 (View.readAt (Elt Ideal) arg9.view (Rect.unit (s := S9x256) ![2, 0] S1x128.size inb_S9x256_S1x128_2_0).toLoadRect (harg9.unread x6)))
      (View.readAt (Elt Ideal) arg9.view (Rect.unit (s := S9x256) ![3, 0] S1x128.size inb_S9x256_S1x128_3_0).toLoadRect (harg9.unread x6))
      (View.readAt (Elt Ideal) arg9.view (Rect.unit (s := S9x256) ![4, 0] S1x128.size inb_S9x256_S1x128_4_0).toLoadRect (harg9.unread x6))
      (View.readAt (Elt Ideal) arg9.view (Rect.unit (s := S9x256) ![5, 0] S1x128.size inb_S9x256_S1x128_5_0).toLoadRect (harg9.unread x6))
      (View.readAt (Elt Ideal) arg9.view (Rect.unit (s := S9x256) ![6, 0] S1x128.size inb_S9x256_S1x128_6_0).toLoadRect (harg9.unread x6))
      (View.readAt (Elt Ideal) arg9.view (Rect.unit (s := S9x256) ![7, 0] S1x128.size inb_S9x256_S1x128_7_0).toLoadRect (harg9.unread x6))
      (View.readAt (Elt Ideal) arg9.view (Rect.unit (s := S9x256) ![8, 0] S1x128.size inb_S9x256_S1x128_8_0).toLoadRect (harg9.unread x6))
      (View.readAt (Elt Ideal) arg10.view (Rect.unit (s := S1x256) ![0, 0] S1x128.size inb_S1x256_S1x128_0_0).toLoadRect (harg10.unread x7))
      (View.readAt (Elt Ideal) arg11.view (Rect.unit (s := S1x256) ![0, 0] S1x128.size inb_S1x256_S1x128_0_0).toLoadRect (harg11.unread x8))
      X k0_t1_loop.trips))

theorem pbuf_at (c : Dev nD) (i : grid0.Coords)
    (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (x0 : Vec Ideal S1x64x1024 .bf16) (x1 : Vec Ideal S1x2048x1024 .bf16) (x2 : Vec Ideal S1x64x1024 .bf16)
    (x3 : Vec Ideal S1024x256 .bf16) (x4 : Vec Ideal S1024x256 .bf16) (x5 : Vec Ideal S9x256 .f32)
    (x6 : Vec Ideal S9x256 .f32) (x7 : Vec Ideal S1x256 .f32) (x8 : Vec Ideal S1x256 .f32) (xp : Vec Ideal S2048x256 .bf16) (f : BufTy.Contents (Elt Ideal) arg17.view.ty)
    (L : List (View.Piece (Elt Ideal) S4x2192x128 .f32)) (R : Fin 2048) (q : Fin 256) :
    pbuf c i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      x5 x6 x7 x8 xp (arg17.view.writes (Elt Ideal) f (upPieces i (arg3.view.read (Elt Ideal) (harg3.unread x0)) (arg4.view.read (Elt Ideal) (harg4.unread x1)) (arg5.view.read (Elt Ideal) (harg5.unread x2)) (arg6.view.read (Elt Ideal) (harg6.unread x3)) (arg7.view.read (Elt Ideal) (harg7.unread x4)) L)) (ix2 R q)
      = gat (upv (i 1).val x0 x1 x2 x3 x4) x5 x6 x7 x8 R.val q := by
  simp only [harg3.read_unread, harg4.read_unread, harg5.read_unread, harg6.read_unread, harg7.read_unread]
  exact P_at _ _ _ _ arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 x5 x6 x7 x8 _ _
    (fun slot R l h8 hR => U_at i x0 x1 x2 x3 x4 arg17.view f L slot R l h8 hR) _ R q

set_option maxHeartbeats 1000000 in
theorem accB_at (c : Dev nD) (i : grid0.Coords)
    (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (hc0 : ¬cond0_0 i) (hc1 : ¬cond0_1 i)
    (x0 : Vec Ideal S1x64x1024 .bf16) (x1 : Vec Ideal S1x2048x1024 .bf16) (x2 : Vec Ideal S1x64x1024 .bf16)
    (x3 : Vec Ideal S1024x256 .bf16) (x4 : Vec Ideal S1024x256 .bf16) (x5 : Vec Ideal S9x256 .f32)
    (x6 : Vec Ideal S9x256 .f32) (x7 : Vec Ideal S1x256 .f32) (x8 : Vec Ideal S1x256 .f32)
    (x9 : Vec Ideal S256x1024 .bf16) (x10 : Vec Ideal S1x2048x1024 .f32) (x11 : Vec Ideal S1x1x1024 .f32)
    (x12 : Vec Ideal S1x1024 .f32)
    (xo : Vec Ideal S1x2048x1024 .f32) (xs : Vec Ideal S4x2192x128 .f32) (xp : Vec Ideal S2048x256 .bf16) (R : Fin 2048) (n : Fin 1024) :
    arg16.view.read (Elt Ideal) (runB c i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      hc0 hc1 x0 x1 x2 x3 x4 x5 x6 x7 x8 x9 x10 x11 x12 xo xs xp).1 (ix3 0 R n)
      = stepv (i 1).val x0 x1 x2 x3 x4 x5 x6 x7 x8 x9 xo R n := by
  unfold runB
  dsimp only
  simp only [runB.sl.v281, runB.sl.v289, runB.sl.v297, runB.sl.v306, runB.sl.v314, runB.sl.v322, runB.sl.v330]
  simp only [runB.sl.v109, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.v272, runB.sl.v305]
  refine (acc_at (arg16.view.read (Elt Ideal) (harg16.unread xo)) (pbuf c i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      x5 x6 x7 x8 xp (arg17.view.writes (Elt Ideal) (harg17.unread xs) (upPieces i (arg3.view.read (Elt Ideal) (harg3.unread x0)) (arg4.view.read (Elt Ideal) (harg4.unread x1)) (arg5.view.read (Elt Ideal) (harg5.unread x2)) (arg6.view.read (Elt Ideal) (harg6.unread x3)) (arg7.view.read (Elt Ideal) (harg7.unread x4)) []))) (arg12.view.read (Elt Ideal) (harg12.unread x9))
    arg16.view (harg16.unread xo) [] R n).trans ?_
  unfold stepv
  rw [harg12.read_unread, harg16.read_unread]
  exact congrArg₂ _ rfl (Finset.sum_congr rfl fun q _ => congrArg (· * x9 (ix2 q n)) (pbuf_at ..))

set_option maxHeartbeats 1000000 in
theorem accC_at (c : Dev nD) (i : grid0.Coords)
    (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (hc0 : ¬cond0_0 i) (hc1 : cond0_1 i)
    (x0 : Vec Ideal S1x64x1024 .bf16) (x1 : Vec Ideal S1x2048x1024 .bf16) (x2 : Vec Ideal S1x64x1024 .bf16)
    (x3 : Vec Ideal S1024x256 .bf16) (x4 : Vec Ideal S1024x256 .bf16) (x5 : Vec Ideal S9x256 .f32)
    (x6 : Vec Ideal S9x256 .f32) (x7 : Vec Ideal S1x256 .f32) (x8 : Vec Ideal S1x256 .f32)
    (x9 : Vec Ideal S256x1024 .bf16) (x10 : Vec Ideal S1x2048x1024 .f32) (x11 : Vec Ideal S1x1x1024 .f32)
    (x12 : Vec Ideal S1x1024 .f32)
    (xo : Vec Ideal S1x2048x1024 .f32) (xs : Vec Ideal S4x2192x128 .f32) (xp : Vec Ideal S2048x256 .bf16) (R : Fin 2048) (n : Fin 1024) :
    arg16.view.read (Elt Ideal) (runC c i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      hc0 hc1 x0 x1 x2 x3 x4 x5 x6 x7 x8 x9 x10 x11 x12 xo xs xp).1 (ix3 0 R n)
      = normed (fun n => x10 (ix3 0 R n)) (fun n => x11 (ix3 0 0 n))
          (fun n => stepv (i 1).val x0 x1 x2 x3 x4 x5 x6 x7 x8 x9 xo R n) (fun n => x12 (ix2 0 n)) n := by
  unfold runC
  dsimp only
  simp only [runC.sl.H13_8, runC.sl.v281, runC.sl.v289, runC.sl.v297, runC.sl.v306, runC.sl.v314, runC.sl.v322, runC.sl.v330, runC.sl.r_28]
  simp only [runC.sl.v109, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.v272, runC.sl.v305]
  rw [View.writes_append]
  refine (pb3_at Variants.none c none i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18 hc1 (harg13.unread x10)
    (harg14.unread x11) (harg15.unread x12) _ R n).trans ?_
  rw [harg13.read_unread, harg14.read_unread, harg15.read_unread]
  refine congrFun (congrArg (fun o => normed (fun n => x10 (ix3 0 R n)) (fun n => x11 (ix3 0 0 n)) o (fun n => x12 (ix2 0 n)))
    (funext fun n => ?_)) n
  refine (acc_at (arg16.view.read (Elt Ideal) (harg16.unread xo)) (pbuf c i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      x5 x6 x7 x8 xp (arg17.view.writes (Elt Ideal) (harg17.unread xs) (upPieces i (arg3.view.read (Elt Ideal) (harg3.unread x0)) (arg4.view.read (Elt Ideal) (harg4.unread x1)) (arg5.view.read (Elt Ideal) (harg5.unread x2)) (arg6.view.read (Elt Ideal) (harg6.unread x3)) (arg7.view.read (Elt Ideal) (harg7.unread x4)) []))) (arg12.view.read (Elt Ideal) (harg12.unread x9))
    arg16.view arg16.view.junk [] R n).trans ?_
  unfold stepv
  rw [harg12.read_unread, harg16.read_unread]
  exact congrArg₂ _ rfl (Finset.sum_congr rfl fun q _ => congrArg (· * x9 (ix2 q n)) (pbuf_at ..))

set_option maxHeartbeats 1000000 in
theorem accA_at (c : Dev nD) (i : grid0.Coords)
    (arg3 : Memref sig .tc .vmem S1x64x1024 .bf16)
    (harg3 : arg3.IsWhole) (arg4 : Memref sig .tc .vmem S1x2048x1024 .bf16) (harg4 : arg4.IsWhole)
    (arg5 : Memref sig .tc .vmem S1x64x1024 .bf16) (harg5 : arg5.IsWhole)
    (arg6 : Memref sig .tc .vmem S1024x256 .bf16) (harg6 : arg6.IsWhole)
    (arg7 : Memref sig .tc .vmem S1024x256 .bf16) (harg7 : arg7.IsWhole) (arg8 : Memref sig .tc .vmem S9x256 .f32)
    (harg8 : arg8.IsWhole) (arg9 : Memref sig .tc .vmem S9x256 .f32) (harg9 : arg9.IsWhole)
    (arg10 : Memref sig .tc .vmem S1x256 .f32) (harg10 : arg10.IsWhole) (arg11 : Memref sig .tc .vmem S1x256 .f32)
    (harg11 : arg11.IsWhole) (arg12 : Memref sig .tc .vmem S256x1024 .bf16) (harg12 : arg12.IsWhole)
    (arg13 : Memref sig .tc .vmem S1x2048x1024 .f32) (harg13 : arg13.IsWhole)
    (arg14 : Memref sig .tc .vmem S1x1x1024 .f32) (harg14 : arg14.IsWhole)
    (arg15 : Memref sig .tc .vmem S1x1024 .f32) (harg15 : arg15.IsWhole)
    (arg16 : Memref sig .tc .vmem S1x2048x1024 .f32) (harg16 : arg16.IsWhole)
    (arg17 : Memref sig .tc .vmem S4x2192x128 .f32) (harg17 : arg17.IsWhole)
    (arg18 : Memref sig .tc .vmem S2048x256 .bf16) (harg18 : arg18.IsWhole)
    (hc0 : cond0_0 i) (hc1 : ¬cond0_1 i)
    (x0 : Vec Ideal S1x64x1024 .bf16) (x1 : Vec Ideal S1x2048x1024 .bf16) (x2 : Vec Ideal S1x64x1024 .bf16)
    (x3 : Vec Ideal S1024x256 .bf16) (x4 : Vec Ideal S1024x256 .bf16) (x5 : Vec Ideal S9x256 .f32)
    (x6 : Vec Ideal S9x256 .f32) (x7 : Vec Ideal S1x256 .f32) (x8 : Vec Ideal S1x256 .f32)
    (x9 : Vec Ideal S256x1024 .bf16) (x10 : Vec Ideal S1x2048x1024 .f32) (x11 : Vec Ideal S1x1x1024 .f32)
    (x12 : Vec Ideal S1x1024 .f32)
    (xo : Vec Ideal S1x2048x1024 .f32) (xs : Vec Ideal S4x2192x128 .f32) (xp : Vec Ideal S2048x256 .bf16) (R : Fin 2048) (n : Fin 1024) :
    arg16.view.read (Elt Ideal) (runA c i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      hc0 hc1 x0 x1 x2 x3 x4 x5 x6 x7 x8 x9 x10 x11 x12 xo xs xp).1 (ix3 0 R n)
      = stepv (i 1).val x0 x1 x2 x3 x4 x5 x6 x7 x8 x9 (fun _ => 0) R n := by
  unfold runA
  dsimp only
  simp (disch := decide) only [runA.sl.H13_1, runA.sl.H13_2, runA.sl.H13_3, runA.sl.H13_4, runA.sl.H13_5, runA.sl.H13_6, runA.sl.H13_7, runA.sl.H13_8, runA.sl.v273, runA.sl.r_28, runA.sl.v281, runA.sl.v289, runA.sl.v297, runA.sl.v306, runA.sl.v314, runA.sl.v322, runA.sl.v330, ↓View.readCov_skip, ↓View.readCov_fill]
  simp only [runA.sl.v109, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.v272, runA.sl.v305, runA.sl.HS0_24]
  refine (acc_at (k0_pay13 (F := Ideal)) (pbuf c i arg3 harg3 arg4 harg4 arg5 harg5 arg6 harg6 arg7 harg7 arg8 harg8 arg9 harg9 arg10 harg10 arg11
        harg11 arg12 harg12 arg13 harg13 arg14 harg14 arg15 harg15 arg16 harg16 arg17 harg17 arg18 harg18
      x5 x6 x7 x8 xp (arg17.view.writes (Elt Ideal) arg17.view.junk (upPieces i (arg3.view.read (Elt Ideal) (harg3.unread x0)) (arg4.view.read (Elt Ideal) (harg4.unread x1)) (arg5.view.read (Elt Ideal) (harg5.unread x2)) (arg6.view.read (Elt Ideal) (harg6.unread x3)) (arg7.view.read (Elt Ideal) (harg7.unread x4)) [⟨Rect.unit (s := S4x2192x128) ![3, 2184, 0] S1x8x128.size inb_S4x2192x128_S1x8x128_3_2184_0, k0_pay12 (F := Ideal)⟩, ⟨Rect.unit (s := S4x2192x128) ![3, 0, 0] S1x8x128.size inb_S4x2192x128_S1x8x128_3_0_0, k0_pay11 (F := Ideal)⟩, ⟨Rect.unit (s := S4x2192x128) ![2, 2184, 0] S1x8x128.size inb_S4x2192x128_S1x8x128_2_2184_0, k0_pay10 (F := Ideal)⟩, ⟨Rect.unit (s := S4x2192x128) ![2, 0, 0] S1x8x128.size inb_S4x2192x128_S1x8x128_2_0_0, k0_pay9 (F := Ideal)⟩, ⟨Rect.unit (s := S4x2192x128) ![1, 2184, 0] S1x8x128.size inb_S4x2192x128_S1x8x128_1_2184_0, k0_pay8 (F := Ideal)⟩, ⟨Rect.unit (s := S4x2192x128) ![1, 0, 0] S1x8x128.size inb_S4x2192x128_S1x8x128_1_0_0, k0_pay7 (F := Ideal)⟩, ⟨Rect.unit (s := S4x2192x128) ![0, 2184, 0] S1x8x128.size inb_S4x2192x128_S1x8x128_0_2184_0, k0_pay6 (F := Ideal)⟩, ⟨Rect.unit (s := S4x2192x128) ![0, 0, 0] S1x8x128.size inb_S4x2192x128_S1x8x128_0_0_0, k0_pay5 (F := Ideal)⟩]))) (arg12.view.read (Elt Ideal) (harg12.unread x9))
    arg16.view arg16.view.junk [⟨Rect.unit (s := S1x2048x1024) ![0, 0, 0] S1x2048x1024.size inb_S1x2048x1024_S1x2048x1024_0_0_0, k0_pay13 (F := Ideal)⟩] R n).trans ?_
  unfold stepv
  rw [harg12.read_unread]
  exact congrArg₂ _ (by pointwise [k0_pay13]) (Finset.sum_congr rfl fun q _ => congrArg (· * x9 (ix2 q n)) (pbuf_at ..))

end Cert.KernelIdeal.Ffn
-- ==== Proof.FfnFrame.lean ====
module

public import proofs.«01_k».proof.Proof.FfnVals
public import proofs.«01_k».proof.Proof.Gen.KernelIdeal.Frame
public import Idealize.ShloMosaic.Lib.Claim

@[expose] public section

set_option maxRecDepth 16384

noncomputable section

namespace Cert.KernelIdeal.Ffn

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the output block holds after each point -/

theorem ix3_first (i : S1x2048x1024.Idx) : i = ix3 0 (i 1) (i 2) :=
  (eq_ix3 i).trans (congrArg (fun x : Fin 1 => ix3 x (i 1) (i 2)) (Subsingleton.elim (α := Fin 1) (i 0) 0))

/-- One block of columns added to `B`. -/
def blkStep (c : Dev nD) (t : Fin cfg0.N) (B : Vec Ideal S1x2048x1024 .f32) : Vec Ideal S1x2048x1024 .f32 :=
  fun i => (stepv (grid0.coords t 1).val (iblk m c 0 t) (iblk m c 1 t) (iblk m c 2 t) (iblk m c 3 t) (iblk m c 4 t) (iblk m c 5 t) (iblk m c
        6 t) (iblk m c 7 t) (iblk m c 8 t) (iblk m c 9 t) B (i 1) (i 2) : EReal)

/-- The last step: the residual and the final normalization of the finished sum. -/
def blkNorm (c : Dev nD) (t : Fin cfg0.N) (Y : Vec Ideal S1x2048x1024 .f32) : Vec Ideal S1x2048x1024 .f32 :=
  fun i => (normed (fun n => iblk m c 10 t (ix3 0 (i 1) n)) (fun n => iblk m c 11 t (ix3 0 0 n))
    (fun n => Y (ix3 0 (i 1) n)) (fun n => iblk m c 12 t (ix2 0 n)) (i 2) : EReal)

/-- The output block after point `n`. -/
def outAt (c : Dev nD) : (n : ℕ) → n < cfg0.N → Vec Ideal S1x2048x1024 .f32
  | 0, h => blkStep m c ⟨0, h⟩ (fun _ => (0 : EReal))
  | n + 1, h =>
    if (n + 1) % 11 = 0 then blkStep m c ⟨n + 1, h⟩ (fun _ => (0 : EReal))
    else if (n + 1) % 11 = 10 then blkNorm m c ⟨n + 1, h⟩ (blkStep m c ⟨n + 1, h⟩ (outAt c n (Nat.lt_of_succ_lt h)))
    else blkStep m c ⟨n + 1, h⟩ (outAt c n (Nat.lt_of_succ_lt h))

/-- The point before. -/
abbrev prev (t : Fin cfg0.N) : Fin cfg0.N := ⟨t.val - 1, Nat.lt_of_le_of_lt (Nat.sub_le _ _) t.isLt⟩

theorem outAt_first (c : Dev nD) (t : Fin cfg0.N) (h0 : t.val % 11 = 0) :
    outAt m c t.val t.isLt = blkStep m c t (fun _ => (0 : EReal)) := by
  obtain ⟨n, hn⟩ := t
  cases n with
  | zero => rfl
  | succ n => exact if_pos h0

theorem outAt_middle (c : Dev nD) (t : Fin cfg0.N) (h0 : ¬t.val % 11 = 0) (h1 : ¬t.val % 11 = 10) :
    outAt m c t.val t.isLt = blkStep m c t (outAt m c (prev t).val (prev t).isLt) := by
  obtain ⟨n, hn⟩ := t
  cases n with
  | zero => exact absurd (Nat.zero_mod _) h0
  | succ n => exact (if_neg h0).trans (if_neg h1)

theorem outAt_last (c : Dev nD) (t : Fin cfg0.N) (h1 : t.val % 11 = 10) :
    outAt m c t.val t.isLt = blkNorm m c t (blkStep m c t (outAt m c (prev t).val (prev t).isLt)) := by
  obtain ⟨n, hn⟩ := t
  cases n with
  | zero => exact absurd h1 (by show ¬(0 % 11 = 10); decide)
  | succ n => exact (if_neg (by dsimp only at h1 ⊢; omega)).trans (if_pos h1)

/-! ## The data of the launch -/

/-- The arrays as found; after each point every input block in place and the output block at `outAt`; the scratch
    buffers at anything between points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t.val t.isLt
    | ⟨_ + 14, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- The output block is not written back between the first and the last block of columns, so it still holds what the
    point before left. -/
theorem before0_13 (c : Dev nD) (t : Fin cfg0.N) (h0 : ¬t.val % 11 = 0) (d) :
    (dats m 0 c).before 13 t d = outAt m c (prev t).val (prev t).isLt := by
  have hz : t.val ≠ 0 := fun h => h0 (by rw [h])
  rw [Dat.before_out_kept (dats m 0 c) 13 rfl t hz
    (Bool.eq_false_iff.mpr fun h => by have := (flush0_13 _).mp h; dsimp only at this; omega)
    (fun _ => rfl) (fun _ _ => rfl) d, after0_13]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- The body at a point, from a run of it that leaves the output block at `outAt`. -/
theorem sound_of_run (c : Dev nD) (t : Fin cfg0.N)
    (hrun : ∀ (d : _) (xs : Vec Ideal S4x2192x128 .f32) (xp : Vec Ideal S2048x256 .bf16),
      ∃ L : BufTy.Contents (Elt Ideal) (ms0_13 t).view.ty,
        (ms0_13 t).view.read (Elt Ideal) L = outAt m c t.val t.isLt ∧
        ∀ (E : Set ℕ) (K : PUnit → sProp 𝕄),
        iprop(owns (c : Thread nD τ) (ms0_0 t) fullShare (iblk m c 0 t) ∗ owns (c : Thread nD τ) (ms0_1 t)
            fullShare (iblk m c 1 t) ∗ owns (c : Thread nD τ) (ms0_2 t) fullShare (iblk m c 2 t) ∗ owns (c :
            Thread nD τ) (ms0_3 t) fullShare (iblk m c 3 t) ∗ owns (c : Thread nD τ) (ms0_4 t) fullShare (iblk m
            c 4 t) ∗ owns (c : Thread nD τ) (ms0_5 t) fullShare (iblk m c 5 t) ∗ owns (c : Thread nD τ) (ms0_6
            t) fullShare (iblk m c 6 t) ∗ owns (c : Thread nD τ) (ms0_7 t) fullShare (iblk m c 7 t) ∗ owns (c :
            Thread nD τ) (ms0_8 t) fullShare (iblk m c 8 t) ∗ owns (c : Thread nD τ) (ms0_9 t) fullShare (iblk m
            c 9 t) ∗ owns (c : Thread nD τ) (ms0_10 t) fullShare (iblk m c 10 t) ∗ owns (c : Thread nD τ)
            (ms0_11 t) fullShare (iblk m c 11 t) ∗ owns (c : Thread nD τ) (ms0_12 t) fullShare (iblk m c 12 t) ∗
            owns (c : Thread nD τ) (ms0_13 t) fullShare ((dats m 0 c).before 13 t d) ∗
            owns (c : Thread nD τ) scM0_0 fullShare xs ∗ owns (c : Thread nD τ) scM0_1 fullShare xp
            ∗ (iprop(owns (c : Thread nD τ) (ms0_0 t) fullShare (iblk m c 0 t) ∗ owns (c : Thread nD τ) (ms0_1 t)
            fullShare (iblk m c 1 t) ∗ owns (c : Thread nD τ) (ms0_2 t) fullShare (iblk m c 2 t) ∗ owns (c :
            Thread nD τ) (ms0_3 t) fullShare (iblk m c 3 t) ∗ owns (c : Thread nD τ) (ms0_4 t) fullShare (iblk m
            c 4 t) ∗ owns (c : Thread nD τ) (ms0_5 t) fullShare (iblk m c 5 t) ∗ owns (c : Thread nD τ) (ms0_6
            t) fullShare (iblk m c 6 t) ∗ owns (c : Thread nD τ) (ms0_7 t) fullShare (iblk m c 7 t) ∗ owns (c :
            Thread nD τ) (ms0_8 t) fullShare (iblk m c 8 t) ∗ owns (c : Thread nD τ) (ms0_9 t) fullShare (iblk m
            c 9 t) ∗ owns (c : Thread nD τ) (ms0_10 t) fullShare (iblk m c 10 t) ∗ owns (c : Thread nD τ)
            (ms0_11 t) fullShare (iblk m c 11 t) ∗ owns (c : Thread nD τ) (ms0_12 t) fullShare (iblk m c 12 t) ∗
            ((ms0_13 t).view.loc (c : Thread nD τ) ↦[(ms0_13 t).view.set]{fullShare} L) ∗
            (∃ d, owns (c : Thread nD τ) scM0_0 fullShare d) ∗ (∃ d, owns (c : Thread nD τ) scM0_1 fullShare d)) -∗ K ⟨⟩))
          ⊢ wp frame (wpE (defs₀ (F := Ideal)) Variants.none c none) E (bodyAt0 t) K) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4, after0_5, after0_6, after0_7, after0_8, after0_9, after0_10, after0_11, after0_12, after0_13, PhiA0_eq]
  iintro ⟨⟨⟨⟨%xs, HS0⟩, ⟨%xp, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨L, hL, hwp⟩ := hrun d13 xs xp
  iapply (hwp Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists L; isplitr
  swap; · iexact H13
  ipureintro; exact hL

/-- The run at the first block of columns. -/
theorem sound_first (c : Dev nD) (t : Fin cfg0.N) (h0 : t.val % 11 = 0) :
    bodyPre m c t ⊢ wp frame (wpE (defs₀ (F := Ideal)) Variants.none c none) Set.univ (bodyAt0 t) (fun _ => bodyPost m c t) :=
  sound_of_run m c t fun d xs xp => by
    refine ⟨(runA c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp).1, ?_,
      (runA c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp).2⟩
    rw [outAt_first m c t h0]
    funext i
    rw [ix3_first i]
    refine (accA_at c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) ((hcond0_0 t).mpr h0) (fun h => by have := (hcond0_1 t).mp h; omega) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp (i 1) (i 2)).trans ?_
    rfl

/-- The run at the middle blocks of columns. -/
theorem sound_middle (c : Dev nD) (t : Fin cfg0.N) (h0 : ¬t.val % 11 = 0) (h1 : ¬t.val % 11 = 10) :
    bodyPre m c t ⊢ wp frame (wpE (defs₀ (F := Ideal)) Variants.none c none) Set.univ (bodyAt0 t) (fun _ => bodyPost m c t) :=
  sound_of_run m c t fun d xs xp => by
    refine ⟨(runB c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp).1, ?_,
      (runB c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp).2⟩
    rw [outAt_middle m c t h0 h1]
    funext i
    rw [ix3_first i]
    refine (accB_at c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp (i 1) (i 2)).trans ?_
    rw [before0_13 m c t h0 d]; rfl

/-- The run at the last block of columns. -/
theorem sound_last (c : Dev nD) (t : Fin cfg0.N) (h1 : t.val % 11 = 10) :
    bodyPre m c t ⊢ wp frame (wpE (defs₀ (F := Ideal)) Variants.none c none) Set.univ (bodyAt0 t) (fun _ => bodyPost m c t) :=
  sound_of_run m c t fun d xs xp => by
    refine ⟨(runC c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) (fun h => by have := (hcond0_0 t).mp h; omega) ((hcond0_1 t).mpr h1) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp).1, ?_,
      (runC c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) (fun h => by have := (hcond0_0 t).mp h; omega) ((hcond0_1 t).mpr h1) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp).2⟩
    rw [outAt_last m c t h1]
    funext i
    rw [ix3_first i]
    refine (accC_at c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (ms0_10 t) (hs0_10 t) (ms0_11 t) (hs0_11 t) (ms0_12 t) (hs0_12 t) (ms0_13 t) (hs0_13 t) scM0_0
        (Memref.isWhole_whole _) scM0_1 (Memref.isWhole_whole _) (fun h => by have := (hcond0_0 t).mp h; omega) ((hcond0_1 t).mpr h1) (iblk m c 0 t) (iblk m c 1 t) (iblk m c 2 t) (iblk m c 3 t) (iblk m c 4 t) (iblk m c 5 t) (iblk m c
        6 t) (iblk m c 7 t) (iblk m c 8 t) (iblk m c 9 t) (iblk m c 10 t) (iblk m c 11 t) (iblk m c 12 t) ((dats m 0 c).before 13 t d) xs xp (i 1) (i 2)).trans ?_
    rw [before0_13 m c t (by omega) d]; rfl

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 11 = 0
  · exact sound_first m c t h0
  · by_cases h1 : t.val % 11 = 10
    · exact sound_last m c t h1
    · exact sound_middle m c t h0 h1

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- The launch ends, every array at what the data say and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Ffn

end
-- ==== Proof.FfnBlocks.lean ====
module

public import proofs.«01_k».proof.Proof.FfnFrame

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Common

variable (m : (ℓ : Loc nD τ sig) → Buf (Elt Ideal) ℓ) (c : Dev nD)

theorem taps_read (x : Vec Ideal S3x3x5632 .f32) (i j : Fin 3) (n : Fin 5632) :
    shapeCast S9x5632 x shapeCasts_S3x3x5632_S9x5632 (ix2 ⟨3 * i.val + j.val, by omega⟩ n) = x (ix3 i j n) := by
  pointwise

theorem bias_read (x : Vec Ideal S5632 .f32) (n : Fin 5632) :
    shapeCast S1x5632 x shapeCasts_S5632_S1x5632 (ix2 0 n) = x (ix1 n) := by
  pointwise

/-! ## The argument arrays, and the blocks read at each grid point -/

abbrev hA (b : Fin 8) (s : Fin 4096) (k : Fin 1024) : EReal := (m ((c : Thread nD τ).loc main_arg0) : Vec Ideal S8x4096x1024 .bf16) (ix3 b s k)
abbrev xA (b : Fin 8) (s : Fin 4096) (n : Fin 1024) : EReal := (m ((c : Thread nD τ).loc main_arg1) : Vec Ideal S8x4096x1024 .f32) (ix3 b s n)
abbrev gA (b : Fin 8) (n : Fin 1024) : EReal :=
  (m ((c : Thread nD τ).loc main_arg2) : Vec Ideal S16x1x6144 .f32) (ix3 (Fin.castLE (by decide) b) 0 ⟨5120 + n.val, by omega⟩)
abbrev fA (n : Fin 1024) : EReal := (m ((c : Thread nD τ).loc main_arg3) : Vec Ideal S1024 .f32) (ix1 n)
abbrev uA (k : Fin 1024) (n : Fin 5632) : EReal := (m ((c : Thread nD τ).loc main_arg4) : Vec Ideal S1024x5632 .bf16) (ix2 k n)
abbrev wA (i j : Fin 3) (n : Fin 5632) : EReal := (m ((c : Thread nD τ).loc main_arg5) : Vec Ideal S3x3x5632 .f32) (ix3 i j n)
abbrev bA (n : Fin 5632) : EReal := (m ((c : Thread nD τ).loc main_arg6) : Vec Ideal S5632 .f32) (ix1 n)
abbrev dA (q : Fin 2816) (n : Fin 1024) : EReal := (m ((c : Thread nD τ).loc main_arg7) : Vec Ideal S2816x1024 .bf16) (ix2 q n)

/-- The batch element of a grid point. -/
abbrev bt (t : Fin cfg0.N) : Fin 8 := ⟨t.val / 22, by have h : t.val < 176 := N_0 ▸ t.isLt; omega⟩

/-- The row of the array that row `r` of a block is: each grid point has half of the 4096 rows. -/
abbrev row (t : Fin cfg0.N) (r : Fin 2048) : Fin 4096 := ⟨2048 * (t.val / 11 % 2) + r.val, by omega⟩

theorem V_taps : V m c main_v0 = shapeCast S9x5632 (m ((c : Thread nD τ).loc main_arg5)) shapeCasts_S3x3x5632_S9x5632 := by
  entry_read
  rfl

theorem V_bias : V m c main_v1 = shapeCast S1x5632 (m ((c : Thread nD τ).loc main_arg6)) shapeCasts_S5632_S1x5632 := by
  entry_read
  rfl

theorem V_gain : V m c main_v2 = shapeCast S1x1024 (m ((c : Thread nD τ).loc main_arg3)) shapeCasts_S1024_S1x1024 := by
  entry_read
  rfl

theorem idx0 : ∀ t : Fin cfg0.N, win0_0.index t 0 = t.val / 22 ∧ win0_0.index t 1 = 32 * (t.val / 11 % 2) - 1 ∧ win0_0.index t 2 = 0 :=
  (by decide +kernel : ∀ t : Fin grid0.N, win0_0.index t 0 = t.val / 22 ∧ win0_0.index t 1 = 32 * (t.val / 11 % 2) - 1 ∧ win0_0.index t 2 = 0)

theorem idx1 : ∀ t : Fin cfg0.N, win0_1.index t 0 = t.val / 22 ∧ win0_1.index t 1 = t.val / 11 % 2 ∧ win0_1.index t 2 = 0 :=
  (by decide +kernel : ∀ t : Fin grid0.N, win0_1.index t 0 = t.val / 22 ∧ win0_1.index t 1 = t.val / 11 % 2 ∧ win0_1.index t 2 = 0)

theorem idx2 : ∀ t : Fin cfg0.N, win0_2.index t 0 = t.val / 22 ∧ win0_2.index t 1 = min (32 * (t.val / 11 % 2 + 1)) 63 ∧ win0_2.index t 2 = 0 :=
  (by decide +kernel : ∀ t : Fin grid0.N, win0_2.index t 0 = t.val / 22 ∧ win0_2.index t 1 = min (32 * (t.val / 11 % 2 + 1)) 63 ∧ win0_2.index t 2 = 0)

theorem idx3 : ∀ t : Fin cfg0.N, win0_3.index t 0 = 0 ∧ win0_3.index t 1 = t.val % 11 :=
  (by decide +kernel : ∀ t : Fin grid0.N, win0_3.index t 0 = 0 ∧ win0_3.index t 1 = t.val % 11)

theorem idx4 : ∀ t : Fin cfg0.N, win0_4.index t 0 = 0 ∧ win0_4.index t 1 = 11 + t.val % 11 :=
  (by decide +kernel : ∀ t : Fin grid0.N, win0_4.index t 0 = 0 ∧ win0_4.index t 1 = 11 + t.val % 11)

theorem idx5 : ∀ t : Fin cfg0.N, win0_5.index t 0 = 0 ∧ win0_5.index t 1 = t.val % 11 :=
  (by decide +kernel : ∀ t : Fin grid0.N, win0_5.index t 0 = 0 ∧ win0_5.index t 1 = t.val % 11)

theorem idx6 : ∀ t : Fin cfg0.N, win0_6.index t 0 = 0 ∧ win0_6.index t 1 = 11 + t.val % 11 :=
  (by decide +kernel : ∀ t : Fin grid0.N, win0_6.index t 0 = 0 ∧ win0_6.index t 1 = 11 + t.val % 11)

theorem idx7 : ∀ t : Fin cfg0.N, win0_7.index t 0 = 0 ∧ win0_7.index t 1 = t.val % 11 :=
  (by decide +kernel : ∀ t : Fin grid0.N, win0_7.index t 0 = 0 ∧ win0_7.index t 1 = t.val % 11)

theorem idx8 : ∀ t : Fin cfg0.N, win0_8.index t 0 = 0 ∧ win0_8.index t 1 = 11 + t.val % 11 :=
  (by decide +kernel : ∀ t : Fin grid0.N, win0_8.index t 0 = 0 ∧ win0_8.index t 1 = 11 + t.val % 11)

theorem idx9 : ∀ t : Fin cfg0.N, win0_9.index t 0 = t.val % 11 ∧ win0_9.index t 1 = 0 :=
  (by decide +kernel : ∀ t : Fin grid0.N, win0_9.index t 0 = t.val % 11 ∧ win0_9.index t 1 = 0)

theorem idx10 : ∀ t : Fin cfg0.N, win0_10.index t 0 = t.val / 22 ∧ win0_10.index t 1 = t.val / 11 % 2 ∧ win0_10.index t 2 = 0 :=
  (by decide +kernel : ∀ t : Fin grid0.N, win0_10.index t 0 = t.val / 22 ∧ win0_10.index t 1 = t.val / 11 % 2 ∧ win0_10.index t 2 = 0)

theorem idx11 : ∀ t : Fin cfg0.N, win0_11.index t 0 = t.val / 22 ∧ win0_11.index t 1 = 0 ∧ win0_11.index t 2 = 5 :=
  (by decide +kernel : ∀ t : Fin grid0.N, win0_11.index t 0 = t.val / 22 ∧ win0_11.index t 1 = 0 ∧ win0_11.index t 2 = 5)

theorem idx12 : ∀ t : Fin cfg0.N, win0_12.index t 0 = 0 ∧ win0_12.index t 1 = 0 :=
  (by decide +kernel : ∀ t : Fin grid0.N, win0_12.index t 0 = 0 ∧ win0_12.index t 1 = 0)

theorem idx13 : ∀ t : Fin cfg0.N, win0_13.index t 0 = t.val / 22 ∧ win0_13.index t 1 = t.val / 11 % 2 ∧ win0_13.index t 2 = 0 :=
  (by decide +kernel : ∀ t : Fin grid0.N, win0_13.index t 0 = t.val / 22 ∧ win0_13.index t 1 = t.val / 11 % 2 ∧ win0_13.index t 2 = 0)

theorem blk0 (t : Fin cfg0.N) (r : Fin 64) (k : Fin 1024) :
    iblk m c 0 t (ix3 0 r k) = hA m c (bt t) ⟨64 * (32 * (t.val / 11 % 2) - 1) + r.val, by omega⟩ k := by
  unfold iblk
  rw [View.read_apply]
  show V m c main_arg0 _ = _
  rw [V_main_arg0]
  congr 1
  funext a
  apply Fin.ext
  obtain ⟨e0, e1, e2⟩ := idx0 t
  match a with
  | ⟨0, _⟩ => show win0_0.index t 0 * 1 + 1 * 0 = t.val / 22; omega
  | ⟨1, _⟩ => show win0_0.index t 1 * 64 + 1 * r.val = 64 * (32 * (t.val / 11 % 2) - 1) + r.val; omega
  | ⟨2, _⟩ => show win0_0.index t 2 * 1024 + 1 * k.val = k.val; omega

theorem blk1 (t : Fin cfg0.N) (r : Fin 2048) (k : Fin 1024) :
    iblk m c 1 t (ix3 0 r k) = hA m c (bt t) (row t r) k := by
  unfold iblk
  rw [View.read_apply]
  show V m c main_arg0 _ = _
  rw [V_main_arg0]
  congr 1
  funext a
  apply Fin.ext
  obtain ⟨e0, e1, e2⟩ := idx1 t
  match a with
  | ⟨0, _⟩ => show win0_1.index t 0 * 1 + 1 * 0 = t.val / 22; omega
  | ⟨1, _⟩ => show win0_1.index t 1 * 2048 + 1 * r.val = 2048 * (t.val / 11 % 2) + r.val; omega
  | ⟨2, _⟩ => show win0_1.index t 2 * 1024 + 1 * k.val = k.val; omega

theorem blk2 (t : Fin cfg0.N) (r : Fin 64) (k : Fin 1024) :
    iblk m c 2 t (ix3 0 r k) = hA m c (bt t) ⟨64 * min (32 * (t.val / 11 % 2 + 1)) 63 + r.val, by omega⟩ k := by
  unfold iblk
  rw [View.read_apply]
  show V m c main_arg0 _ = _
  rw [V_main_arg0]
  congr 1
  funext a
  apply Fin.ext
  obtain ⟨e0, e1, e2⟩ := idx2 t
  match a with
  | ⟨0, _⟩ => show win0_2.index t 0 * 1 + 1 * 0 = t.val / 22; omega
  | ⟨1, _⟩ => show win0_2.index t 1 * 64 + 1 * r.val = 64 * min (32 * (t.val / 11 % 2 + 1)) 63 + r.val; omega
  | ⟨2, _⟩ => show win0_2.index t 2 * 1024 + 1 * k.val = k.val; omega

theorem blk3 (t : Fin cfg0.N) (k : Fin 1024) (n : Fin 256) :
    iblk m c 3 t (ix2 k n) = uA m c k ⟨256 * (t.val % 11) + n.val, by omega⟩ := by
  unfold iblk
  rw [View.read_apply]
  show V m c main_arg4 _ = _
  rw [V_main_arg4]
  congr 1
  funext a
  apply Fin.ext
  obtain ⟨e0, e1⟩ := idx3 t
  match a with
  | ⟨0, _⟩ => show win0_3.index t 0 * 1024 + 1 * k.val = k.val; omega
  | ⟨1, _⟩ => show win0_3.index t 1 * 256 + 1 * n.val = 256 * (t.val % 11) + n.val; omega

theorem blk4 (t : Fin cfg0.N) (k : Fin 1024) (n : Fin 256) :
    iblk m c 4 t (ix2 k n) = uA m c k ⟨2816 + 256 * (t.val % 11) + n.val, by omega⟩ := by
  unfold iblk
  rw [View.read_apply]
  show V m c main_arg4 _ = _
  rw [V_main_arg4]
  congr 1
  funext a
  apply Fin.ext
  obtain ⟨e0, e1⟩ := idx4 t
  match a with
  | ⟨0, _⟩ => show win0_4.index t 0 * 1024 + 1 * k.val = k.val; omega
  | ⟨1, _⟩ => show win0_4.index t 1 * 256 + 1 * n.val = 2816 + 256 * (t.val % 11) + n.val; omega

theorem blk5 (t : Fin cfg0.N) (i j : Fin 3) (n : Fin 256) :
    iblk m c 5 t (ix2 ⟨3 * i.val + j.val, by omega⟩ n) = wA m c i j ⟨256 * (t.val % 11) + n.val, by omega⟩ := by
  unfold iblk
  rw [View.read_apply]
  show V m c main_v0 _ = _
  rw [V_taps]
  have e : ((cfg0.win 5).blk t).view.emb (ix2 ⟨3 * i.val + j.val, by omega⟩ n) = (ix2 ⟨3 * i.val + j.val, by omega⟩ ⟨256 * (t.val % 11) + n.val, by omega⟩ : S9x5632.Idx) := by
    funext a
    apply Fin.ext
    obtain ⟨e0, e1⟩ := idx5 t
    match a with
    | ⟨0, _⟩ => show win0_5.index t 0 * 9 + 1 * (3 * i.val + j.val) = 3 * i.val + j.val; omega
    | ⟨1, _⟩ => show win0_5.index t 1 * 256 + 1 * n.val = 256 * (t.val % 11) + n.val; omega
  rw [e]
  exact taps_read _ i j _

theorem blk6 (t : Fin cfg0.N) (i j : Fin 3) (n : Fin 256) :
    iblk m c 6 t (ix2 ⟨3 * i.val + j.val, by omega⟩ n) = wA m c i j ⟨2816 + 256 * (t.val % 11) + n.val, by omega⟩ := by
  unfold iblk
  rw [View.read_apply]
  show V m c main_v0 _ = _
  rw [V_taps]
  have e : ((cfg0.win 6).blk t).view.emb (ix2 ⟨3 * i.val + j.val, by omega⟩ n) = (ix2 ⟨3 * i.val + j.val, by omega⟩ ⟨2816 + 256 * (t.val % 11) + n.val, by omega⟩ : S9x5632.Idx) := by
    funext a
    apply Fin.ext
    obtain ⟨e0, e1⟩ := idx6 t
    match a with
    | ⟨0, _⟩ => show win0_6.index t 0 * 9 + 1 * (3 * i.val + j.val) = 3 * i.val + j.val; omega
    | ⟨1, _⟩ => show win0_6.index t 1 * 256 + 1 * n.val = 2816 + 256 * (t.val % 11) + n.val; omega
  rw [e]
  exact taps_read _ i j _

theorem blk7 (t : Fin cfg0.N) (n : Fin 256) :
    iblk m c 7 t (ix2 0 n) = bA m c ⟨256 * (t.val % 11) + n.val, by omega⟩ := by
  unfold iblk
  rw [View.read_apply]
  show V m c main_v1 _ = _
  rw [V_bias]
  have e : ((cfg0.win 7).blk t).view.emb (ix2 0 n) = (ix2 0 ⟨256 * (t.val % 11) + n.val, by omega⟩ : S1x5632.Idx) := by
    funext a
    apply Fin.ext
    obtain ⟨e0, e1⟩ := idx7 t
    match a with
    | ⟨0, _⟩ => show win0_7.index t 0 * 1 + 1 * 0 = 0; omega
    | ⟨1, _⟩ => show win0_7.index t 1 * 256 + 1 * n.val = 256 * (t.val % 11) + n.val; omega
  rw [e]
  exact bias_read _ _

theorem blk8 (t : Fin cfg0.N) (n : Fin 256) :
    iblk m c 8 t (ix2 0 n) = bA m c ⟨2816 + 256 * (t.val % 11) + n.val, by omega⟩ := by
  unfold iblk
  rw [View.read_apply]
  show V m c main_v1 _ = _
  rw [V_bias]
  have e : ((cfg0.win 8).blk t).view.emb (ix2 0 n) = (ix2 0 ⟨2816 + 256 * (t.val % 11) + n.val, by omega⟩ : S1x5632.Idx) := by
    funext a
    apply Fin.ext
    obtain ⟨e0, e1⟩ := idx8 t
    match a with
    | ⟨0, _⟩ => show win0_8.index t 0 * 1 + 1 * 0 = 0; omega
    | ⟨1, _⟩ => show win0_8.index t 1 * 256 + 1 * n.val = 2816 + 256 * (t.val % 11) + n.val; omega
  rw [e]
  exact bias_read _ _

theorem blk9 (t : Fin cfg0.N) (q : Fin 256) (n : Fin 1024) :
    iblk m c 9 t (ix2 q n) = dA m c ⟨256 * (t.val % 11) + q.val, by omega⟩ n := by
  unfold iblk
  rw [View.read_apply]
  show V m c main_arg7 _ = _
  rw [V_main_arg7]
  congr 1
  funext a
  apply Fin.ext
  obtain ⟨e0, e1⟩ := idx9 t
  match a with
  | ⟨0, _⟩ => show win0_9.index t 0 * 256 + 1 * q.val = 256 * (t.val % 11) + q.val; omega
  | ⟨1, _⟩ => show win0_9.index t 1 * 1024 + 1 * n.val = n.val; omega

theorem blk10 (t : Fin cfg0.N) (r : Fin 2048) (n : Fin 1024) :
    iblk m c 10 t (ix3 0 r n) = xA m c (bt t) (row t r) n := by
  unfold iblk
  rw [View.read_apply]
  show V m c main_arg1 _ = _
  rw [V_main_arg1]
  congr 1
  funext a
  apply Fin.ext
  obtain ⟨e0, e1, e2⟩ := idx10 t
  match a with
  | ⟨0, _⟩ => show win0_10.index t 0 * 1 + 1 * 0 = t.val / 22; omega
  | ⟨1, _⟩ => show win0_10.index t 1 * 2048 + 1 * r.val = 2048 * (t.val / 11 % 2) + r.val; omega
  | ⟨2, _⟩ => show win0_10.index t 2 * 1024 + 1 * n.val = n.val; omega

theorem blk11 (t : Fin cfg0.N) (n : Fin 1024) :
    iblk m c 11 t (ix3 0 0 n) = gA m c (bt t) n := by
  unfold iblk
  rw [View.read_apply]
  show V m c main_arg2 _ = _
  rw [V_main_arg2]
  congr 1
  funext a
  apply Fin.ext
  obtain ⟨e0, e1, e2⟩ := idx11 t
  match a with
  | ⟨0, _⟩ => show win0_11.index t 0 * 1 + 1 * 0 = t.val / 22; omega
  | ⟨1, _⟩ => show win0_11.index t 1 * 1 + 1 * 0 = 0; omega
  | ⟨2, _⟩ => show win0_11.index t 2 * 1024 + 1 * n.val = 5120 + n.val; omega

theorem blk12 (t : Fin cfg0.N) (n : Fin 1024) :
    iblk m c 12 t (ix2 0 n) = fA m c n := by
  unfold iblk
  rw [View.read_apply]
  show V m c main_v2 _ = _
  rw [V_gain]
  have e : ((cfg0.win 12).blk t).view.emb (ix2 0 n) = (ix2 0 n : S1x1024.Idx) := by
    funext a
    apply Fin.ext
    obtain ⟨e0, e1⟩ := idx12 t
    match a with
    | ⟨0, _⟩ => show win0_12.index t 0 * 1 + 1 * 0 = 0; omega
    | ⟨1, _⟩ => show win0_12.index t 1 * 1024 + 1 * n.val = n.val; omega
  rw [e]
  pointwise

theorem emb13 (t : Fin cfg0.N) (r : Fin 2048) (n : Fin 1024) :
    ((cfg0.win 13).blk t).view.emb (ix3 0 r n) = (ix3 (bt t) (row t r) n : S8x4096x1024.Idx) := by
  funext a
  apply Fin.ext
  obtain ⟨e0, e1, e2⟩ := idx13 t
  match a with
  | ⟨0, _⟩ => show win0_13.index t 0 * 1 + 1 * 0 = t.val / 22; omega
  | ⟨1, _⟩ => show win0_13.index t 1 * 2048 + 1 * r.val = 2048 * (t.val / 11 % 2) + r.val; omega
  | ⟨2, _⟩ => show win0_13.index t 2 * 1024 + 1 * n.val = n.val; omega

end Cert.KernelIdeal.Ffn
-- ==== Proof.FfnValue.lean ====
module

public import proofs.«01_k».proof.Proof.FfnBlocks
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Common

variable (m : (ℓ : Loc nD τ sig) → Buf (Elt Ideal) ℓ) (c : Dev nD)

/-! ## The rows of the scratch buffer are rows of the up-projected image -/

/-- The channel that column `l` of slot `slot` holds at column block `j`. -/
abbrev chan (j : ℕ) (hj : j < 11) (slot : Fin 4) (l : Fin 128) : Fin 5632 :=
  ⟨2816 * (slot.val / 2) + 256 * j + 128 * (slot.val % 2) + l.val, by omega⟩

theorem jlt (t : Fin cfg0.N) : t.val % 11 < 11 := Nat.mod_lt _ (by decide)

theorem upw_chan (t : Fin cfg0.N) (slot : Fin 4) (k : Fin 1024) (l : Fin 128) :
    upw (iblk m c 3 t) (iblk m c 4 t) slot k l = uA m c k (chan (t.val % 11) (jlt t) slot l) := by
  unfold upw
  split_ifs with h
  · rw [blk3]
    congr 1
    apply Fin.ext
    show 256 * (t.val % 11) + (128 * (slot.val % 2) + l.val) = 2816 * (slot.val / 2) + 256 * (t.val % 11) + 128 * (slot.val % 2) + l.val
    omega
  · rw [blk4]
    congr 1
    apply Fin.ext
    show 2816 + 256 * (t.val % 11) + (128 * (slot.val % 2) + l.val) = 2816 * (slot.val / 2) + 256 * (t.val % 11) + 128 * (slot.val % 2) + l.val
    omega

/-- The scratch buffer's row `8 + 64 * a + w` is row `a - 1` of this half of the image, at column `w`. -/
theorem ups_row (t : Fin cfg0.N) (slot : Fin 4) (a w : ℕ) (ha : a < 34) (hw : w < 64) (l : Fin 128) :
    ups (t.val / 11 % 2) (iblk m c 0 t) (iblk m c 1 t) (iblk m c 2 t) (iblk m c 3 t) (iblk m c 4 t) slot (8 + 64 * a + w) l
      = upRow (hA m c) (uA m c) (bt t) (32 * (t.val / 11 % 2) + a) (w + 1) (chan (t.val % 11) (jlt t) slot l) := by
  have hp : t.val / 11 % 2 < 2 := Nat.mod_lt _ (by decide)
  unfold ups upRow
  simp only [upw_chan]
  split_ifs with h1 h2 h3 h3 h4 h5 h6 h7 h7
  all_goals first
    | rfl
    | omega
    | skip
  · refine Finset.sum_congr rfl fun k _ => ?_
    rw [blk0]
    congr 2
    apply Fin.ext
    show 64 * (32 * (t.val / 11 % 2) - 1) + (8 + 64 * a + w - 8) % 64 = (64 * (32 * (t.val / 11 % 2) + a - 1) + (w + 1 - 1)) % 4096
    omega
  · refine Finset.sum_congr rfl fun k _ => ?_
    rw [blk1]
    congr 2
    apply Fin.ext
    show 2048 * (t.val / 11 % 2) + (8 + 64 * a + w - 72) % 2048 = (64 * (32 * (t.val / 11 % 2) + a - 1) + (w + 1 - 1)) % 4096
    omega
  · refine Finset.sum_congr rfl fun k _ => ?_
    rw [blk2]
    congr 2
    apply Fin.ext
    show 64 * min (32 * (t.val / 11 % 2 + 1)) 63 + (8 + 64 * a + w - 2120) % 64 = (64 * (32 * (t.val / 11 % 2) + a - 1) + (w + 1 - 1)) % 4096
    omega

/-- The scratch buffer of up-projected rows at a grid point. -/
abbrev ub (t : Fin cfg0.N) : Vec Ideal S4x2192x128 .f32 :=
  upv (t.val / 11 % 2) (iblk m c 0 t) (iblk m c 1 t) (iblk m c 2 t) (iblk m c 3 t) (iblk m c 4 t)

theorem rd_row (t : Fin cfg0.N) (slot : Fin 4) (a w R : ℕ) (ha : a < 34) (hw : w < 64) (l : Fin 128) (hR : R = 8 + 64 * a + w) :
    rd (ub m c t) slot R l
      = upRow (hA m c) (uA m c) (bt t) (32 * (t.val / 11 % 2) + a) (w + 1) (chan (t.val % 11) (jlt t) slot l) := by
  subst hR
  unfold rd
  rw [dif_pos (by omega)]
  exact ups_row m c t slot a w ha hw l

/-! ## The taps are the convolution -/

/-- Outside the columns 1 to 64 the padded image is zero. -/
theorem upRow_edge (H : Fin 8 → Fin 4096 → Fin 1024 → EReal) (W : Fin 1024 → Fin 5632 → EReal) (b : Fin 8) (r w : ℕ) (n : Fin 5632)
    (hw : w = 0 ∨ w = 65) : upRow H W b r w n = 0 := if_neg (by omega)

/-- A column of taps at column `w` of the padded image; a column on the border is dropped. -/
theorem col_conv (t : Fin cfg0.N) (slot : Fin 4) (w0 w1 w2 : EReal) (k x s w : ℕ) (hk : k < 32) (hw : w < 64) (l : Fin 128)
    (hx : x + s = 8 + w) :
    col (ub m c t) slot w0 w1 w2 k x s l
      = upRow (hA m c) (uA m c) (bt t) (32 * (t.val / 11 % 2) + k) (w + 1) (chan (t.val % 11) (jlt t) slot l) * w0
        + upRow (hA m c) (uA m c) (bt t) (32 * (t.val / 11 % 2) + k + 1) (w + 1) (chan (t.val % 11) (jlt t) slot l) * w1
        + upRow (hA m c) (uA m c) (bt t) (32 * (t.val / 11 % 2) + k + 2) (w + 1) (chan (t.val % 11) (jlt t) slot l) * w2 := by
  unfold col
  rw [rd_row m c t slot k w _ (by omega) hw l (by omega), rd_row m c t slot (k + 1) w _ (by omega) hw l (by omega),
    rd_row m c t slot (k + 2) w _ (by omega) hw l (by omega), mul_comm w0, mul_comm w1, mul_comm w2]
  rfl

/-- The kernel adds the nine taps column by column, the reference row by row. -/
theorem tap_order (b a00 a01 a02 a10 a11 a12 a20 a21 a22 : EReal) :
    b + (a01 + a11 + a21) + ((a00 + a10 + a20) + (a02 + a12 + a22)) = b + a00 + a01 + a02 + a10 + a11 + a12 + a20 + a21 + a22 := by
  ac_rfl

/-- The taps and the bias of a half of a block of columns are the convolution's. -/
theorem wts_gate (t : Fin cfg0.N) (h : Fin 2) (l : Fin 128) (i j : Fin 3) (n : Fin 5632) (hn : n.val = 256 * (t.val % 11) + 128 * h.val + l.val) :
    wts (iblk m c 5 t) h l i j = wA m c i j n := by
  unfold wts
  rw [blk5]
  exact congrArg (wA m c i j) (Fin.ext (by show 256 * (t.val % 11) + (128 * h.val + l.val) = n.val; omega))

theorem wts_value (t : Fin cfg0.N) (h : Fin 2) (l : Fin 128) (i j : Fin 3) (n : Fin 5632)
    (hn : n.val = 2816 + 256 * (t.val % 11) + 128 * h.val + l.val) : wts (iblk m c 6 t) h l i j = wA m c i j n := by
  unfold wts
  rw [blk6]
  exact congrArg (wA m c i j) (Fin.ext (by show 2816 + 256 * (t.val % 11) + (128 * h.val + l.val) = n.val; omega))

theorem bia_gate (t : Fin cfg0.N) (h : Fin 2) (l : Fin 128) (n : Fin 5632) (hn : n.val = 256 * (t.val % 11) + 128 * h.val + l.val) :
    bia (iblk m c 7 t) h l = bA m c n := by
  unfold bia
  rw [blk7]
  exact congrArg (bA m c) (Fin.ext (by show 256 * (t.val % 11) + (128 * h.val + l.val) = n.val; omega))

theorem bia_value (t : Fin cfg0.N) (h : Fin 2) (l : Fin 128) (n : Fin 5632)
    (hn : n.val = 2816 + 256 * (t.val % 11) + 128 * h.val + l.val) : bia (iblk m c 8 t) h l = bA m c n := by
  unfold bia
  rw [blk8]
  exact congrArg (bA m c) (Fin.ext (by show 2816 + 256 * (t.val % 11) + (128 * h.val + l.val) = n.val; omega))

theorem taps_conv (t : Fin cfg0.N) (slot : Fin 4) (w : Fin 3 → Fin 3 → EReal) (b : EReal) (k u s : ℕ) (hk : k < 32) (hu : u < 8) (hs : s < 8)
    (l : Fin 128) (n : Fin 5632) (hn : n = chan (t.val % 11) (jlt t) slot l) (hw : ∀ i j, w i j = wA m c i j n) (hb : b = bA m c n) :
    taps (ub m c t) slot w b k u s l
      = conv (hA m c) (uA m c) (wA m c) (bA m c) (bt t) (32 * (t.val / 11 % 2) + k) (8 * u + s) n := by
  unfold taps conv
  rw [col_conv m c t slot _ _ _ k (8 * u + 8) s (8 * u + s) hk (by omega) l (by omega), ← hn]
  have eL : (if u = 0 ∧ s = 0 then 0 else col (ub m c t) slot (w 0 0) (w 1 0) (w 2 0) k (8 * u + 7) s l)
      = upRow (hA m c) (uA m c) (bt t) (32 * (t.val / 11 % 2) + k) (8 * u + s) n * w 0 0
        + upRow (hA m c) (uA m c) (bt t) (32 * (t.val / 11 % 2) + k + 1) (8 * u + s) n * w 1 0
        + upRow (hA m c) (uA m c) (bt t) (32 * (t.val / 11 % 2) + k + 2) (8 * u + s) n * w 2 0 := by
    split_ifs with h
    · simp only [upRow_edge _ _ _ _ (8 * u + s) _ (Or.inl (by omega)), zero_mul, add_zero]
    · rw [col_conv m c t slot _ _ _ k (8 * u + 7) s (8 * u + s - 1) hk (by omega) l (by omega), ← hn,
        show 8 * u + s - 1 + 1 = 8 * u + s by omega]
  have eR : (if u = 7 ∧ s = 7 then 0 else col (ub m c t) slot (w 0 2) (w 1 2) (w 2 2) k (8 * u + 9) s l)
      = upRow (hA m c) (uA m c) (bt t) (32 * (t.val / 11 % 2) + k) (8 * u + s + 2) n * w 0 2
        + upRow (hA m c) (uA m c) (bt t) (32 * (t.val / 11 % 2) + k + 1) (8 * u + s + 2) n * w 1 2
        + upRow (hA m c) (uA m c) (bt t) (32 * (t.val / 11 % 2) + k + 2) (8 * u + s + 2) n * w 2 2 := by
    split_ifs with h
    · simp only [upRow_edge _ _ _ _ (8 * u + s + 2) _ (Or.inr (by omega)), zero_mul, add_zero]
    · rw [col_conv m c t slot _ _ _ k (8 * u + 9) s (8 * u + s + 1) hk (by omega) l (by omega), ← hn]
  rw [eL, eR, hb]
  simp only [hw]
  exact tap_order ..

/-- The gated product of one half of a block of columns is the hidden layer's. -/
theorem gated_hidden (t : Fin cfg0.N) (h : Fin 2) (a b : Fin 4) (ha : a.val = h.val) (hb : b.val = 2 + h.val) (R : Fin 2048) (l : Fin 128)
    (q : Fin 2816) (hq : q.val = 256 * (t.val % 11) + 128 * h.val + l.val) :
    gated (ub m c t) a b (wts (iblk m c 5 t) h) (wts (iblk m c 6 t) h) (bia (iblk m c 7 t) h) (bia (iblk m c 8 t) h) R.val l
      = hiddenAt (hA m c) (uA m c) (wA m c) (bA m c) (bt t) (row t R) q := by
  have ey : (row t R).val / 64 = 32 * (t.val / 11 % 2) + R.val / 64 := by
    show (2048 * (t.val / 11 % 2) + R.val) / 64 = _; omega
  have ex : (row t R).val % 64 = 8 * (R.val % 64 / 8) + R.val % 8 := by
    show (2048 * (t.val / 11 % 2) + R.val) % 64 = _; omega
  unfold hiddenAt gated
  rw [ey, ex,
    taps_conv m c t a _ _ (R.val / 64) (R.val % 64 / 8) (R.val % 8) (by omega) (by omega) (by omega) l ⟨q.val, by omega⟩
      (Fin.ext (by show q.val = 2816 * (a.val / 2) + 256 * (t.val % 11) + 128 * (a.val % 2) + l.val; omega))
      (fun i j => wts_gate m c t h l i j _ hq) (bia_gate m c t h l _ hq),
    taps_conv m c t b _ _ (R.val / 64) (R.val % 64 / 8) (R.val % 8) (by omega) (by omega) (by omega) l ⟨2816 + q.val, by omega⟩
      (Fin.ext (by show 2816 + q.val = 2816 * (b.val / 2) + 256 * (t.val % 11) + 128 * (b.val % 2) + l.val; omega))
      (fun i j => wts_value m c t h l i j _ (by show 2816 + q.val = _; omega)) (bia_value m c t h l _ (by show 2816 + q.val = _; omega))]

/-- One element of the gated block. -/
theorem gat_hidden (t : Fin cfg0.N) (R : Fin 2048) (q : Fin 256) :
    gat (ub m c t) (iblk m c 5 t) (iblk m c 6 t) (iblk m c 7 t) (iblk m c 8 t) R.val q
      = hiddenAt (hA m c) (uA m c) (wA m c) (bA m c) (bt t) (row t R) ⟨256 * (t.val % 11) + q.val, by omega⟩ := by
  unfold gat
  split_ifs with h
  · exact gated_hidden m c t 0 0 2 rfl rfl R _ _ (by
      show 256 * (t.val % 11) + q.val = 256 * (t.val % 11) + 128 * 0 + q.val % 128; omega)
  · exact gated_hidden m c t 1 1 3 rfl rfl R _ _ (by
      show 256 * (t.val % 11) + q.val = 256 * (t.val % 11) + 128 * 1 + (q.val - 128) % 128; omega)

/-! ## The sum over the column blocks -/

/-- One term of the down-projection, by the number of its hidden channel. -/
def term (b : Fin 8) (s : Fin 4096) (n : Fin 1024) (x : ℕ) : EReal :=
  hiddenAt (hA m c) (uA m c) (wA m c) (bA m c) b s (Fin.ofNat 2816 x) * dA m c (Fin.ofNat 2816 x) n

/-- One step adds one block's terms. -/
theorem step_term (t : Fin cfg0.N) (B : Vec Ideal S1x2048x1024 .f32) (R : Fin 2048) (n : Fin 1024) :
    blkStep m c t B (ix3 0 R n) = B (ix3 0 R n) + ∑ q : Fin 256, term m c (bt t) (row t R) n (t.val % 11 * 256 + q.val) := by
  show stepv (grid0.coords t 1).val _ _ _ _ _ _ _ _ _ _ B R n = _
  have ep : (grid0.coords t 1).val = t.val / 11 % 2 := Pipeline.Grid.coords_val t 1 (by decide) rfl
  rw [ep]
  unfold stepv
  refine congrArg (B (ix3 0 R n) + ·) (Finset.sum_congr rfl fun q _ => ?_)
  have eq : (Fin.ofNat 2816 (t.val % 11 * 256 + q.val)) = ⟨256 * (t.val % 11) + q.val, by omega⟩ :=
    Fin.ext (by show (t.val % 11 * 256 + q.val) % 2816 = 256 * (t.val % 11) + q.val; omega)
  unfold term
  rw [eq]
  exact congrArg₂ (· * ·) (gat_hidden m c t R q) (blk9 m c t q n)

/-- The output block after point `t`, before the normalization. -/
def sumTo (t : Fin cfg0.N) (R : Fin 2048) (n : Fin 1024) : EReal :=
  ∑ s : Fin (t.val % 11 + 1), ∑ q : Fin 256, term m c (bt t) (row t R) n (s.val * 256 + q.val)

theorem sumTo_first (t : Fin cfg0.N) (h0 : t.val % 11 = 0) (R : Fin 2048) (n : Fin 1024) :
    blkStep m c t (fun _ => (0 : EReal)) (ix3 0 R n) = sumTo m c t R n := by
  rw [step_term, zero_add]
  unfold sumTo
  rw [h0]
  simp

theorem sumTo_next (t : Fin cfg0.N) (h0 : ¬t.val % 11 = 0) (B : Vec Ideal S1x2048x1024 .f32) (R : Fin 2048) (n : Fin 1024)
    (hB : B (ix3 0 R n) = sumTo m c (prev t) R n) : blkStep m c t B (ix3 0 R n) = sumTo m c t R n := by
  rw [step_term, hB]
  unfold sumTo
  have hv : (prev t).val = t.val - 1 := rfl
  have e1 : bt (prev t) = bt t := Fin.ext (by show (prev t).val / 22 = t.val / 22; omega)
  have e2 : row (prev t) R = row t R := Fin.ext (by
    show 2048 * ((prev t).val / 11 % 2) + R.val = 2048 * (t.val / 11 % 2) + R.val; omega)
  have e3 : t.val % 11 = (prev t).val % 11 + 1 := by omega
  rw [e1, e2, e3, Fin.sum_univ_castSucc (n := (prev t).val % 11 + 1)]
  rfl

theorem outAt_sum : ∀ (k : ℕ) (hk : k < cfg0.N), ¬k % 11 = 10 → ∀ (R : Fin 2048) (n : Fin 1024),
    outAt m c k hk (ix3 0 R n) = sumTo m c ⟨k, hk⟩ R n := by
  intro k
  induction k using Nat.strong_induction_on with
  | _ k ih =>
    intro hk h1 R n
    by_cases h0 : k % 11 = 0
    · have e := outAt_first m c ⟨k, hk⟩ h0
      rw [show outAt m c k hk = _ from e]
      exact sumTo_first m c ⟨k, hk⟩ h0 R n
    · have e := outAt_middle m c ⟨k, hk⟩ h0 h1
      rw [show outAt m c k hk = _ from e]
      exact sumTo_next m c ⟨k, hk⟩ h0 _ R n (ih _ (by show k - 1 < k; omega) _ (by show ¬(k - 1) % 11 = 10; omega) R n)

/-- The whole sum is the down-projection. -/
theorem sumTo_down (t : Fin cfg0.N) (h1 : t.val % 11 = 10) (R : Fin 2048) (n : Fin 1024) :
    sumTo m c t R n = down (hA m c) (uA m c) (wA m c) (bA m c) (dA m c) (bt t) (row t R) n := by
  unfold sumTo down
  rw [h1]
  refine (Fin.sum_univ_univ_mul_add 11 256 (term m c (bt t) (row t R) n)).trans ?_
  refine Finset.sum_congr rfl fun q _ => ?_
  unfold term
  rw [show Fin.ofNat 2816 q.val = q from Fin.ext (Nat.mod_eq_of_lt q.isLt)]

/-! ## The result array -/

/-- The kernel's result. -/
def G13 : Vec Ideal S8x4096x1024 .f32 := fun i =>
  (ffnOut (hA m c) (uA m c) (wA m c) (bA m c) (dA m c) (xA m c) (gA m c) (fA m c) (i 0) (i 1) (i 2) : EReal)

theorem outAt_out (t : Fin cfg0.N) (h1 : t.val % 11 = 10) (R : Fin 2048) (n : Fin 1024) :
    outAt m c t.val t.isLt (ix3 0 R n)
      = ffnOut (hA m c) (uA m c) (wA m c) (bA m c) (dA m c) (xA m c) (gA m c) (fA m c) (bt t) (row t R) n := by
  rw [outAt_last m c t h1]
  unfold blkNorm ffnOut
  show normed (fun n => iblk m c 10 t (ix3 0 R n)) (fun n => iblk m c 11 t (ix3 0 0 n)) (fun n => blkStep m c t _ (ix3 0 R n))
    (fun n => iblk m c 12 t (ix2 0 n)) n = _
  have e (n : Fin 1024) := (sumTo_next m c t (by omega) _ R n
    (outAt_sum m c (prev t).val (prev t).isLt (by show ¬(t.val - 1) % 11 = 10; omega) R n)).trans (sumTo_down m c t h1 R n)
  simp only [e, blk10, blk11, blk12]

theorem flushed13_eq (t : Fin cfg0.N) (h1 : t.val % 11 = 10) :
    (dats m 0 c).flushed 13 t = ((cfg0.win 13).blk t).view.read (Elt Ideal) (G13 m c) := by
  show (dats m 0 c).after 13 t = _
  rw [after0_13]
  funext y
  rw [View.read_apply]
  obtain ⟨r, n, rfl⟩ : ∃ (r : Fin 2048) (n : Fin 1024), y = (ix3 0 r n : S1x2048x1024.Idx) := ⟨y 1, y 2, ix3_first y⟩
  rw [emb13]
  exact outAt_out m c t h1 r n

theorem cover13 (i : S8x4096x1024.Idx) :
    ∃ t : Fin cfg0.N, (cfg0.win 13).flush t = true ∧ i ∈ ((cfg0.win 13).blk t).view.set := by
  have h2 : (i 2).val < 1024 := (i 2).isLt
  have h0 : (i 0).val < 8 := (i 0).isLt
  have h1 : (i 1).val < 4096 := (i 1).isLt
  have hN : cfg0.N = 176 := N_0
  obtain ⟨t, ht⟩ : ∃ t : Fin cfg0.N, t.val = 22 * (i 0).val + 11 * ((i 1).val / 2048) + 10 :=
    ⟨⟨22 * (i 0).val + 11 * ((i 1).val / 2048) + 10, by omega⟩, rfl⟩
  have e : ((cfg0.win 13).blk t).view.emb (ix3 0 ⟨(i 1).val % 2048, by omega⟩ ⟨(i 2).val, h2⟩) = i := by
    refine (emb13 t _ _).trans ?_
    funext a
    apply Fin.ext
    match a with
    | ⟨0, _⟩ => show t.val / 22 = (i 0).val; omega
    | ⟨1, _⟩ => show 2048 * (t.val / 11 % 2) + (i 1).val % 2048 = (i 1).val; omega
    | ⟨2, _⟩ => rfl
  exact ⟨t, (flush0_13 t).2 (by omega), e ▸ View.emb_mem_set _ _⟩

theorem final13 : (dats m 0 c).arrAt 13 cfg0.N = G13 m c :=
  (dats m 0 c).arrAt_eq_of_cover 13 (G13 m c) (fun t h => flushed13_eq m c t ((flush0_13 t).1 h)) cover13

end Cert.KernelIdeal.Ffn
-- ==== Proof.FfnRef.lean ====
module

public import proofs.«01_k».proof.Proof.FfnSpec
public import proofs.«01_k».proof.Defs
public import proofs.«01_k».proof.Proof.Gen.ReferenceIdeal.Read

@[expose] public section

noncomputable section

open Idealize.ShloMosaic Idealize.ShloMosaic.TcCoe Idealize.SL.Sem

namespace Cert.ReferenceIdeal.Ffn

open Cert.ReferenceIdeal Cert.ReferenceIdeal.Gen Cert.ReferenceIdeal.Read Cert.Common

variable (h : Vec Ideal S8x4096x1024 .bf16) (x : Vec Ideal S8x4096x1024 .f32) (mods : Vec Ideal S16x1x6144 .f32)
  (fg : Vec Ideal S1024 .f32) (w : Vec Ideal S1024x5632 .bf16) (cw : Vec Ideal S3x3x5632 .f32) (cb : Vec Ideal S5632 .f32)
  (wd : Vec Ideal S2816x1024 .bf16)

/-- The zero-bordered up-projection, read. -/
theorem up_apply (b : Fin 8) (r q : Fin 66) (n : Fin 5632) :
    val_main_v5 (F := Ideal) h w (ix4 b r q n)
      = upRow (fun b s k => h (ix3 b s k)) (fun k n => w (ix2 k n)) b r.val q.val n := by
  pointwise [val_main_v5, val_main_v4, val_main_v3, val_main_v2, val_main_v1, val_main_c, val_main_call0_v0, upRow]
  have hz : (FloatOps.sitofp (F := Ideal) FTy.f32 0#32 : EReal) = 0 := by
    show (((0#32 : BitVec 32).toInt : ℝ) : EReal) = 0
    simp
  rw [hz]
  split_ifs with h1 h2 h2
  · refine Finset.sum_congr rfl fun k _ => ?_
    congr 3
    apply Fin.ext
    show (r.val - 1) * 64 + (q.val - 1) = (64 * (r.val - 1) + (q.val - 1)) % 4096
    omega
  · omega
  · omega
  · rfl

/-- The convolution, read over the bordered image. -/
theorem conv_apply (b : Fin 8) (y q : Fin 64) (n : Fin 5632) :
    val_main_v70 (F := Ideal) h w cw cb (ix4 b y q n)
      = conv (fun b s k => h (ix3 b s k)) (fun k n => w (ix2 k n)) (fun i j n => cw (ix3 i j n)) (fun n => cb (ix1 n)) b y.val q.val n := by
  unfold val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6
  generalize e : val_main_v5 (F := Ideal) h w = u
  pointwise
  unfold conv
  have hu : ∀ r q : Fin 66, u (ix4 b r q n)
      = upRow (fun b s k => h (ix3 b s k)) (fun k n => w (ix2 k n)) b r.val q.val n := fun r q => by
    rw [← e, up_apply]
  simp only [hu, Nat.add_comm 1, Nat.add_comm 2]

theorem hidden_apply (b : Fin 8) (s : Fin 4096) (q : Fin 2816) :
    val_main_v87 (F := Ideal) h w cw cb (ix3 b s q)
      = hiddenAt (fun b s k => h (ix3 b s k)) (fun k n => w (ix2 k n)) (fun i j n => cw (ix3 i j n)) (fun n => cb (ix1 n)) b s q := by
  unfold val_main_v87 val_main_v86 val_main_v85 val_main_v84 val_main_v83 val_main_v82 val_main_v81 val_main_v80 val_main_v79 val_main_v78 val_main_v77 val_main_v76 val_main_v75 val_main_v74 val_main_v73 val_main_v72 val_main_v71
  generalize e : val_main_v70 (F := Ideal) h w cw cb = u
  pointwise [val_main_cst, val_main_cst_0, val_main_cst_1, val_main_cst_2]
  unfold hiddenAt gelu
  have hu : ∀ (y x : Fin 64) (n : Fin 5632), u (ix4 b y x n) = conv (fun b s k => h (ix3 b s k)) (fun k n => w (ix2 k n))
      (fun i j n => cw (ix3 i j n)) (fun n => cb (ix1 n)) b y.val x.val n := fun y x n => by rw [← e, conv_apply]
  rw [← hu ⟨s.val / 64, by omega⟩ ⟨s.val % 64, by omega⟩ ⟨q.val, by omega⟩,
    ← hu ⟨s.val / 64, by omega⟩ ⟨s.val % 64, by omega⟩ ⟨2816 + q.val, by omega⟩]

theorem down_apply (b : Fin 8) (s : Fin 4096) (n : Fin 1024) :
    val_main_v89 (F := Ideal) h w cw cb wd (ix3 b s n)
      = down (fun b s k => h (ix3 b s k)) (fun k n => w (ix2 k n)) (fun i j n => cw (ix3 i j n)) (fun n => cb (ix1 n))
          (fun q n => wd (ix2 q n)) b s n := by
  unfold val_main_v89 val_main_v88
  generalize e : val_main_v87 (F := Ideal) h w cw cb = u
  pointwise
  unfold down
  exact Finset.sum_congr rfl fun q _ => by rw [← e, hidden_apply]

theorem out_apply (b : Fin 8) (s : Fin 4096) (n : Fin 1024) :
    val_main_v105 (F := Ideal) h x mods fg w cw cb wd (ix3 b s n)
      = ffnOut (fun b s k => h (ix3 b s k)) (fun k n => w (ix2 k n)) (fun i j n => cw (ix3 i j n)) (fun n => cb (ix1 n))
          (fun q n => wd (ix2 q n)) (fun b s n => x (ix3 b s n))
          (fun b n => mods (ix3 (Fin.castLE (by decide) b) 0 ⟨5120 + n.val, by omega⟩)) (fun n => fg (ix1 n)) b s n := by
  unfold val_main_v105 val_main_v104 val_main_v103 val_main_v102 val_main_v101 val_main_v100 val_main_v99 val_main_v98 val_main_v97 val_main_v96 val_main_v95 val_main_v94 val_main_v93 val_main_v92 val_main_v91 val_main_v90 val_main_v0
  generalize e : val_main_v89 (F := Ideal) h w cw cb wd = u
  pointwise [val_main_cst_3, val_main_cst_4, val_main_cst_5]
  unfold ffnOut normed
  simp only [← down_apply, e]
  rfl

end Cert.ReferenceIdeal.Ffn

end
-- ==== Proof.FfnClaim.lean ====
module

public import proofs.«01_k».proof.Proof.FfnValue
public import proofs.«01_k».proof.Proof.FfnRef
public import proofs.«01_k».proof.Defs
public import proofs.«01_k».proof.Proof.Gen.KernelIdeal
public import proofs.«01_k».proof.Proof.Gen.ReferenceIdeal
public import proofs.«01_k».proof.Proof.Gen.ReferenceIdeal.Run

@[expose] public section

noncomputable section

open Idealize.ShloMosaic Idealize.ShloMosaic.TcCoe Idealize.SL.Sem

namespace Cert.Proof

open Cert.KernelIdeal.Ffn

/-- The feed-forward, over the extended reals: the kernel keeps its arguments and leaves no semaphore raised. -/
theorem frame_ffn : Cert.quiescent_KernelIdeal := fun m ρ _ =>
  θ_run_and (Cert.KernelIdeal.Gen.frame_of m ρ (dats m) (A_eq m) (run_main m ρ))
    ((θ_run Cert.KernelIdeal.defs _ _).mono (fun _ h => h.2) (run_main_quiescent m ρ))

theorem frame_ffn_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The feed-forward: the kernel's result array is the reference's. -/
theorem algebraic : Cert.algebraic_KernelIdeal_ReferenceIdeal := by
  intro m ρ m' ρ' _ hagree
  refine ⟨fun c => G13 m c, ?_, ?_⟩
  · exact (θ_run Cert.KernelIdeal.defs _ _).mono
      (fun _ h c => ⟨((h.2 c).1 13).trans (final13 m c), h.1 c⟩)
      (θ_run_and (Cert.KernelIdeal.Gen.frame_of m ρ (dats m) (A_eq m) (run_main m ρ)) (run_main m ρ))
  · refine (θ_run Cert.ReferenceIdeal.defs _ _).mono (fun _ h c => ?_) (Cert.ReferenceIdeal.Value.run (F := Ideal) m' ρ')
    obtain ⟨a0, a1, a2, a3, a4, a5, a6, a7⟩ := hagree c
    obtain ⟨h0, hr⟩ := h c
    refine ⟨h0.trans ?_, hr⟩
    refine (Cert.ReferenceIdeal.Read.val_main_v105_eq ..).trans ?_
    show Cert.ReferenceIdeal.Read.val_main_v105 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [a0, a1, a2, a3, a4, a5, a6, a7]
    funext i
    refine (congrArg _ (eq_ix3 i)).trans ?_
    exact Cert.ReferenceIdeal.Ffn.out_apply ..

end Cert.Proof

end
-- ==== Proof.InProj.lean ====
module

public import proofs.«01_k».proof.Proof.Common
public import proofs.«01_k».proof.Proof.Gen.Kernel3Ideal.Value
public import Idealize.ShloMosaic.Lib.Claim

@[expose] public section

noncomputable section

open Idealize.ShloMosaic Idealize.ShloMosaic.TcCoe Idealize.SL.Sem
open Idealize.ShloMosaic.Pipeline (Dat)

namespace Cert.Kernel3Ideal.InProj

open Cert.Kernel3Ideal Cert.Kernel3Ideal.Gen Cert.Common

/-! ## The body's payloads at an index -/

theorem pay4_apply (v0 : Vec Ideal S1x512x1024 .f32) (v2 : Vec Ideal S1x1024 .f32) (v4 v6 : Vec Ideal S1x1x1024 .f32)
    (r : Fin 512) (l : Fin 1024) :
    k0_pay4 v0 v2 v4 v6 (ix2 r l) = modulated (fun k => v0 (ix3 0 r k)) (fun k => v2 (ix2 0 k))
      (fun k => v4 (ix3 0 0 k)) (fun k => v6 (ix3 0 0 k)) l := by
  pointwise [k0_pay4, modulated]

theorem pay5_apply (v0 : Vec Ideal S1x512x1024 .f32) (v2 : Vec Ideal S1x1024 .f32) (v4 v6 : Vec Ideal S1x1x1024 .f32)
    (w : Vec Ideal S1024x512 .bf16) (r : Fin 512) (n : Fin 512) :
    k0_pay5 v0 v2 v4 v6 w (ix3 0 r n) = ∑ k : Fin 1024, k0_pay4 v0 v2 v4 v6 (ix2 r k) * w (ix2 k n) := by
  unfold k0_pay5
  generalize k0_pay4 v0 v2 v4 v6 = y
  pointwise

theorem pay1_apply (y : FVec Ideal S512x1024 .bf16) (w : Vec Ideal S1024x1024 .bf16) (r : Fin 512) (n : Fin 1024) :
    k0_pay1 y w (constant S512x1024 .f32 0x00000000#32) (ix3 0 r n) = ∑ k : Fin 1024, y (ix2 r k) * w (ix2 k n) := by
  pointwise [k0_pay1]

theorem pay2_apply (y : FVec Ideal S512x1024 .bf16) (w : Vec Ideal S1024x1024 .bf16) (r : Fin 512) (n : Fin 1024) :
    k0_pay2 y w (ix3 0 r n) = ∑ k : Fin 1024, y (ix2 r k) * w (ix2 k n) := by
  pointwise [k0_pay2]

theorem pay3_apply (y : FVec Ideal S512x1024 .bf16) (w : Vec Ideal S1024x2048 .bf16) (r : Fin 512) (n : Fin 2048) :
    k0_pay3 y w (ix3 0 r n) = ∑ k : Fin 1024, y (ix2 r k) * w (ix2 k n) := by
  pointwise [k0_pay3]

variable (m : (ℓ : Loc nD τ sig) → Buf (Elt Ideal) ℓ) (c : Dev nD)

/-! ## The windows' blocks at an index: point `t` is batch `t / 8`, row block `t % 8` -/

abbrev bt (t : Fin cfg0.N) : Fin 8 := ⟨t.val / 8, by have h : t.val < cfg0.N := t.isLt; have e : cfg0.N = 64 := N_0; omega⟩
abbrev row (t : Fin cfg0.N) (r : Fin 512) : Fin 4096 := ⟨512 * (t.val % 8) + r.val, by omega⟩

theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem idx1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

theorem idx2 : ∀ t : Fin cfg0.N, win0_2.index t 0 = t.val / 8 ∧ win0_2.index t 1 = 0 ∧ win0_2.index t 2 = 1 :=
  (by decide +kernel : ∀ t : Fin grid0.N, win0_2.index t 0 = t.val / 8 ∧ win0_2.index t 1 = 0 ∧ win0_2.index t 2 = 1)

theorem idx3 : ∀ t : Fin cfg0.N, win0_3.index t 0 = 0 ∧ win0_3.index t 1 = 0 :=
  (by decide +kernel : ∀ t : Fin grid0.N, win0_3.index t 0 = 0 ∧ win0_3.index t 1 = 0)

theorem idx4 : ∀ t : Fin cfg0.N, win0_4.index t 0 = 0 ∧ win0_4.index t 1 = 0 :=
  (by decide +kernel : ∀ t : Fin grid0.N, win0_4.index t 0 = 0 ∧ win0_4.index t 1 = 0)

theorem idx5 : ∀ t : Fin cfg0.N, win0_5.index t 0 = 0 ∧ win0_5.index t 1 = 0 :=
  (by decide +kernel : ∀ t : Fin grid0.N, win0_5.index t 0 = 0 ∧ win0_5.index t 1 = 0)

theorem idx6 : ∀ t : Fin cfg0.N, win0_6.index t 0 = 0 ∧ win0_6.index t 1 = 0 :=
  (by decide +kernel : ∀ t : Fin grid0.N, win0_6.index t 0 = 0 ∧ win0_6.index t 1 = 0)

theorem idx7 : ∀ t : Fin cfg0.N, win0_7.index t 0 = 0 ∧ win0_7.index t 1 = 0 :=
  (by decide +kernel : ∀ t : Fin grid0.N, win0_7.index t 0 = 0 ∧ win0_7.index t 1 = 0)

theorem idx8 : ∀ t : Fin cfg0.N, win0_8.index t 0 = t.val / 8 ∧ win0_8.index t 1 = t.val % 8 ∧ win0_8.index t 2 = 0 :=
  (by decide +kernel : ∀ t : Fin grid0.N, win0_8.index t 0 = t.val / 8 ∧ win0_8.index t 1 = t.val % 8 ∧ win0_8.index t 2 = 0)

theorem idx9 : ∀ t : Fin cfg0.N, win0_9.index t 0 = t.val / 8 ∧ win0_9.index t 1 = t.val % 8 ∧ win0_9.index t 2 = 0 :=
  (by decide +kernel : ∀ t : Fin grid0.N, win0_9.index t 0 = t.val / 8 ∧ win0_9.index t 1 = t.val % 8 ∧ win0_9.index t 2 = 0)

theorem idx10 : ∀ t : Fin cfg0.N, win0_10.index t 0 = t.val / 8 ∧ win0_10.index t 1 = t.val % 8 ∧ win0_10.index t 2 = 0 :=
  (by decide +kernel : ∀ t : Fin grid0.N, win0_10.index t 0 = t.val / 8 ∧ win0_10.index t 1 = t.val % 8 ∧ win0_10.index t 2 = 0)

theorem idx11 : ∀ t : Fin cfg0.N, win0_11.index t 0 = t.val / 8 ∧ win0_11.index t 1 = t.val % 8 ∧ win0_11.index t 2 = 0 :=
  (by decide +kernel : ∀ t : Fin grid0.N, win0_11.index t 0 = t.val / 8 ∧ win0_11.index t 1 = t.val % 8 ∧ win0_11.index t 2 = 0)

theorem blk0 (t : Fin cfg0.N) (r : Fin 512) (l : Fin 1024) :
    iblk m c 0 t (ix3 0 r l) = m ((c : Thread nD τ).loc main_arg0) (ix3 (bt t) (row t r) l) := by
  unfold iblk
  rw [View.read_apply]
  show V m c main_arg0 _ = _
  rw [V_main_arg0]
  congr 1
  funext a
  apply Fin.ext
  obtain ⟨e0, e1, e2⟩ := idx0 t
  match a with
  | ⟨0, _⟩ => show win0_0.index t 0 * 1 + 1 * 0 = t.val / 8; omega
  | ⟨1, _⟩ => show win0_0.index t 1 * 512 + 1 * r.val = 512 * (t.val % 8) + r.val; omega
  | ⟨2, _⟩ => show win0_0.index t 2 * 1024 + 1 * l.val = l.val; omega

/-- The rows of the modulation table: batch `b`'s, and the chunk of it that starts at `o`. -/
abbrev modAt (o : Nat) (h : o + 1024 ≤ 6144) (l : Fin 1024) : Fin 6144 := ⟨o + l.val, by omega⟩
abbrev bm (b : Fin 8) : Fin 16 := ⟨b.val, by omega⟩

theorem blk1 (t : Fin cfg0.N) (l : Fin 1024) :
    iblk m c 1 t (ix3 0 0 l) = m ((c : Thread nD τ).loc main_arg1) (ix3 (bm (bt t)) 0 (modAt 0 (by decide) l)) := by
  unfold iblk
  rw [View.read_apply]
  show V m c main_arg1 _ = _
  rw [V_main_arg1]
  congr 1
  funext a
  apply Fin.ext
  obtain ⟨e0, e1, e2⟩ := idx1 t
  match a with
  | ⟨0, _⟩ => show win0_1.index t 0 * 1 + 1 * 0 = t.val / 8; omega
  | ⟨1, _⟩ => show win0_1.index t 1 * 1 + 1 * 0 = 0; omega
  | ⟨2, _⟩ => show win0_1.index t 2 * 1024 + 1 * l.val = 0 + l.val; omega

theorem blk2 (t : Fin cfg0.N) (l : Fin 1024) :
    iblk m c 2 t (ix3 0 0 l) = m ((c : Thread nD τ).loc main_arg1) (ix3 (bm (bt t)) 0 (modAt 1024 (by decide) l)) := by
  unfold iblk
  rw [View.read_apply]
  show V m c main_arg1 _ = _
  rw [V_main_arg1]
  congr 1
  funext a
  apply Fin.ext
  obtain ⟨e0, e1, e2⟩ := idx2 t
  match a with
  | ⟨0, _⟩ => show win0_2.index t 0 * 1 + 1 * 0 = t.val / 8; omega
  | ⟨1, _⟩ => show win0_2.index t 1 * 1 + 1 * 0 = 0; omega
  | ⟨2, _⟩ => show win0_2.index t 2 * 1024 + 1 * l.val = 1024 + l.val; omega

theorem V_gain : V m c main_v0 = shapeCast S1x1024 (m ((c : Thread nD τ).loc main_arg2)) shapeCasts_S1024_S1x1024 := by
  entry_read
  rfl

theorem blk3 (t : Fin cfg0.N) (l : Fin 1024) :
    iblk m c 3 t (ix2 0 l) = m ((c : Thread nD τ).loc main_arg2) (ix1 l) := by
  unfold iblk
  rw [View.read_apply]
  show V m c main_v0 _ = _
  rw [V_gain]
  have e : ((cfg0.win 3).blk t).view.emb (ix2 0 l) = (ix2 0 l : S1x1024.Idx) := by
    funext a
    apply Fin.ext
    obtain ⟨e0, e1⟩ := idx3 t
    match a with
    | ⟨0, _⟩ => show win0_3.index t 0 * 1 + 1 * 0 = 0; omega
    | ⟨1, _⟩ => show win0_3.index t 1 * 1024 + 1 * l.val = l.val; omega
  rw [e]
  pointwise

theorem blk4 (t : Fin cfg0.N) (k : Fin 1024) (n : Fin 512) :
    iblk m c 4 t (ix2 k n) = m ((c : Thread nD τ).loc main_arg3) (ix2 k n) := by
  unfold iblk
  rw [View.read_apply]
  show V m c main_arg3 _ = _
  rw [V_main_arg3]
  congr 1
  funext a
  apply Fin.ext
  obtain ⟨e0, e1⟩ := idx4 t
  match a with
  | ⟨0, _⟩ => show win0_4.index t 0 * 1024 + 1 * k.val = k.val; omega
  | ⟨1, _⟩ => show win0_4.index t 1 * 512 + 1 * n.val = n.val; omega

theorem blk5 (t : Fin cfg0.N) (k : Fin 1024) (n : Fin 1024) :
    iblk m c 5 t (ix2 k n) = m ((c : Thread nD τ).loc main_arg4) (ix2 k n) := by
  unfold iblk
  rw [View.read_apply]
  show V m c main_arg4 _ = _
  rw [V_main_arg4]
  congr 1
  funext a
  apply Fin.ext
  obtain ⟨e0, e1⟩ := idx5 t
  match a with
  | ⟨0, _⟩ => show win0_5.index t 0 * 1024 + 1 * k.val = k.val; omega
  | ⟨1, _⟩ => show win0_5.index t 1 * 1024 + 1 * n.val = n.val; omega

theorem blk6 (t : Fin cfg0.N) (k : Fin 1024) (n : Fin 1024) :
    iblk m c 6 t (ix2 k n) = m ((c : Thread nD τ).loc main_arg5) (ix2 k n) := by
  unfold iblk
  rw [View.read_apply]
  show V m c main_arg5 _ = _
  rw [V_main_arg5]
  congr 1
  funext a
  apply Fin.ext
  obtain ⟨e0, e1⟩ := idx6 t
  match a with
  | ⟨0, _⟩ => show win0_6.index t 0 * 1024 + 1 * k.val = k.val; omega
  | ⟨1, _⟩ => show win0_6.index t 1 * 1024 + 1 * n.val = n.val; omega

theorem blk7 (t : Fin cfg0.N) (k : Fin 1024) (n : Fin 2048) :
    iblk m c 7 t (ix2 k n) = m ((c : Thread nD τ).loc main_arg6) (ix2 k n) := by
  unfold iblk
  rw [View.read_apply]
  show V m c main_arg6 _ = _
  rw [V_main_arg6]
  congr 1
  funext a
  apply Fin.ext
  obtain ⟨e0, e1⟩ := idx7 t
  match a with
  | ⟨0, _⟩ => show win0_7.index t 0 * 1024 + 1 * k.val = k.val; omega
  | ⟨1, _⟩ => show win0_7.index t 1 * 2048 + 1 * n.val = n.val; omega

/-! ## The result arrays -/

/-- The normed and modulated input at a batch, a row and a channel. -/
def normed (x : S8x4096x1024.Idx → EReal) (mods : S16x1x6144.Idx → EReal) (g : S1024.Idx → EReal) (b : Fin 8) (s : Fin 4096) (k : Fin 1024) : EReal :=
  modulated (fun k => x (ix3 b s k)) (fun k => g (ix1 k)) (fun k => mods (ix3 (bm b) 0 (modAt 0 (by decide) k)))
    (fun k => mods (ix3 (bm b) 0 (modAt 1024 (by decide) k))) k

abbrev X := m ((c : Thread nD τ).loc main_arg0)
abbrev M := m ((c : Thread nD τ).loc main_arg1)
abbrev Γ := m ((c : Thread nD τ).loc main_arg2)

theorem hz3 : (![0, 0, 0] : Fin 3 → Nat) = fun _ => 0 := funext fun a => by fin_cases a <;> rfl
theorem hz2 : (![0, 0] : Fin 2 → Nat) = fun _ => 0 := funext fun a => by fin_cases a <;> rfl

theorem pay4_blocks (t : Fin cfg0.N) (r : Fin 512) (k : Fin 1024) :
    k0_pay4 (iblk m c 0 t) (iblk m c 3 t) (iblk m c 1 t) (iblk m c 2 t) (ix2 r k) = normed (X m c) (M m c) (Γ m c) (bt t) (row t r) k := by
  refine (pay4_apply ..).trans ?_
  unfold normed
  congr 1
  · funext k; exact blk0 m c t r k
  · funext k; exact blk3 m c t k
  · funext k; exact blk1 m c t k
  · funext k; exact blk2 m c t k

/-- Result window 8's array: the product of the normed input with its weight. -/
def G8 : Vec Ideal S8x4096x512 .f32 := fun i =>
  (∑ k : Fin 1024, normed (X m c) (M m c) (Γ m c) (i 0) (i 1) k * m ((c : Thread nD τ).loc main_arg3) (ix2 k (i 2)) : EReal)

theorem emb8 (t : Fin cfg0.N) (r : Fin 512) (n : Fin 512) :
    ((cfg0.win 8).blk t).view.emb (ix3 0 r n) = (ix3 (bt t) (row t r) n : S8x4096x512.Idx) := by
  funext a
  apply Fin.ext
  obtain ⟨e0, e1, e2⟩ := idx8 t
  match a with
  | ⟨0, _⟩ => show win0_8.index t 0 * 1 + 1 * 0 = t.val / 8; omega
  | ⟨1, _⟩ => show win0_8.index t 1 * 512 + 1 * r.val = 512 * (t.val % 8) + r.val; omega
  | ⟨2, _⟩ => show win0_8.index t 2 * 512 + 1 * n.val = n.val; omega

theorem flushed8_eq (t : Fin cfg0.N) :
    (dats m 0 c).flushed 8 t = ((cfg0.win 8).blk t).view.read (Elt Ideal) (G8 m c) := by
  rw [Value.flushed8]
  funext y
  rw [View.read_apply]
  obtain ⟨r, n, rfl⟩ : ∃ (r : Fin 512) (n : Fin 512), y = (ix3 0 r n : S1x512x512.Idx) :=
    ⟨y 1, y 2, funext fun a => by match a with | ⟨0, _⟩ => exact Fin.ext (by have h : (y 0).val < 1 := (y 0).isLt; show (y 0).val = 0; omega) | ⟨1, _⟩ => rfl | ⟨2, _⟩ => rfl⟩
  show out0_8 _ _ _ _ _ _ _ _ (ix3 0 r n) = G8 m c (((cfg0.win 8).blk t).view.emb (ix3 0 r n))
  rw [emb8]
  unfold out0_8
  rw [View.canon_unit_zero hz3]
  simp only [View.ld_unit_zero (S := S1x512x1024) hz3, View.ld_unit_zero (S := S1x1x1024) hz3, View.ld_unit_zero (S := S1x1024) hz2, View.ld_unit_zero (S := S1024x512) hz2]
  refine (pay5_apply ..).trans ?_
  unfold G8
  refine Finset.sum_congr rfl fun k _ => ?_
  rw [pay4_blocks]
  exact congrArg _ (blk4 m c t k n)

theorem cover8 (i : S8x4096x512.Idx) :
    ∃ t : Fin cfg0.N, (cfg0.win 8).flush t = true ∧ i ∈ ((cfg0.win 8).blk t).view.set := by
  have h2 : (i 2).val < 512 := (i 2).isLt
  have h0 : (i 0).val < 8 := (i 0).isLt
  have h1 : (i 1).val < 4096 := (i 1).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  have e : ((cfg0.win 8).blk t).view.emb (ix3 0 ⟨(i 1).val % 512, by omega⟩ ⟨(i 2).val, h2⟩) = i := by
    refine (emb8 t _ _).trans ?_
    funext a
    apply Fin.ext
    match a with
    | ⟨0, _⟩ => show t.val / 8 = (i 0).val; omega
    | ⟨1, _⟩ => show 512 * (t.val % 8) + (i 1).val % 512 = (i 1).val; omega
    | ⟨2, _⟩ => rfl
  exact ⟨t, flush0_8 t, e ▸ View.emb_mem_set _ _⟩

theorem final8 : (dats m 0 c).arrAt 8 cfg0.N = G8 m c :=
  (dats m 0 c).arrAt_eq_of_cover 8 (G8 m c) (fun t _ => flushed8_eq m c t) cover8

/-- Result window 9's array: the product of the normed input with its weight. -/
def G9 : Vec Ideal S8x4096x1024 .f32 := fun i =>
  (∑ k : Fin 1024, normed (X m c) (M m c) (Γ m c) (i 0) (i 1) k * m ((c : Thread nD τ).loc main_arg4) (ix2 k (i 2)) : EReal)

theorem emb9 (t : Fin cfg0.N) (r : Fin 512) (n : Fin 1024) :
    ((cfg0.win 9).blk t).view.emb (ix3 0 r n) = (ix3 (bt t) (row t r) n : S8x4096x1024.Idx) := by
  funext a
  apply Fin.ext
  obtain ⟨e0, e1, e2⟩ := idx9 t
  match a with
  | ⟨0, _⟩ => show win0_9.index t 0 * 1 + 1 * 0 = t.val / 8; omega
  | ⟨1, _⟩ => show win0_9.index t 1 * 512 + 1 * r.val = 512 * (t.val % 8) + r.val; omega
  | ⟨2, _⟩ => show win0_9.index t 2 * 1024 + 1 * n.val = n.val; omega

theorem flushed9_eq (t : Fin cfg0.N) :
    (dats m 0 c).flushed 9 t = ((cfg0.win 9).blk t).view.read (Elt Ideal) (G9 m c) := by
  rw [Value.flushed9]
  funext y
  rw [View.read_apply]
  obtain ⟨r, n, rfl⟩ : ∃ (r : Fin 512) (n : Fin 1024), y = (ix3 0 r n : S1x512x1024.Idx) :=
    ⟨y 1, y 2, funext fun a => by match a with | ⟨0, _⟩ => exact Fin.ext (by have h : (y 0).val < 1 := (y 0).isLt; show (y 0).val = 0; omega) | ⟨1, _⟩ => rfl | ⟨2, _⟩ => rfl⟩
  show out0_9 _ _ _ _ _ _ _ _ (ix3 0 r n) = G9 m c (((cfg0.win 9).blk t).view.emb (ix3 0 r n))
  rw [emb9]
  unfold out0_9 k0_pay6
  rw [View.canon_unit_zero hz3]
  simp only [View.ld_unit_zero (S := S1x512x1024) hz3, View.ld_unit_zero (S := S1x1x1024) hz3, View.ld_unit_zero (S := S1x1024) hz2, View.ld_unit_zero (S := S1024x1024) hz2]
  refine (pay1_apply ..).trans ?_
  unfold G9
  refine Finset.sum_congr rfl fun k _ => ?_
  rw [pay4_blocks]
  exact congrArg _ (blk5 m c t k n)

theorem cover9 (i : S8x4096x1024.Idx) :
    ∃ t : Fin cfg0.N, (cfg0.win 9).flush t = true ∧ i ∈ ((cfg0.win 9).blk t).view.set := by
  have h2 : (i 2).val < 1024 := (i 2).isLt
  have h0 : (i 0).val < 8 := (i 0).isLt
  have h1 : (i 1).val < 4096 := (i 1).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  have e : ((cfg0.win 9).blk t).view.emb (ix3 0 ⟨(i 1).val % 512, by omega⟩ ⟨(i 2).val, h2⟩) = i := by
    refine (emb9 t _ _).trans ?_
    funext a
    apply Fin.ext
    match a with
    | ⟨0, _⟩ => show t.val / 8 = (i 0).val; omega
    | ⟨1, _⟩ => show 512 * (t.val % 8) + (i 1).val % 512 = (i 1).val; omega
    | ⟨2, _⟩ => rfl
  exact ⟨t, flush0_9 t, e ▸ View.emb_mem_set _ _⟩

theorem final9 : (dats m 0 c).arrAt 9 cfg0.N = G9 m c :=
  (dats m 0 c).arrAt_eq_of_cover 9 (G9 m c) (fun t _ => flushed9_eq m c t) cover9

/-- Result window 10's array: the product of the normed input with its weight. -/
def G10 : Vec Ideal S8x4096x1024 .bf16 := fun i =>
  (∑ k : Fin 1024, normed (X m c) (M m c) (Γ m c) (i 0) (i 1) k * m ((c : Thread nD τ).loc main_arg5) (ix2 k (i 2)) : EReal)

theorem emb10 (t : Fin cfg0.N) (r : Fin 512) (n : Fin 1024) :
    ((cfg0.win 10).blk t).view.emb (ix3 0 r n) = (ix3 (bt t) (row t r) n : S8x4096x1024.Idx) := by
  funext a
  apply Fin.ext
  obtain ⟨e0, e1, e2⟩ := idx10 t
  match a with
  | ⟨0, _⟩ => show win0_10.index t 0 * 1 + 1 * 0 = t.val / 8; omega
  | ⟨1, _⟩ => show win0_10.index t 1 * 512 + 1 * r.val = 512 * (t.val % 8) + r.val; omega
  | ⟨2, _⟩ => show win0_10.index t 2 * 1024 + 1 * n.val = n.val; omega

theorem flushed10_eq (t : Fin cfg0.N) :
    (dats m 0 c).flushed 10 t = ((cfg0.win 10).blk t).view.read (Elt Ideal) (G10 m c) := by
  rw [Value.flushed10]
  funext y
  rw [View.read_apply]
  obtain ⟨r, n, rfl⟩ : ∃ (r : Fin 512) (n : Fin 1024), y = (ix3 0 r n : S1x512x1024.Idx) :=
    ⟨y 1, y 2, funext fun a => by match a with | ⟨0, _⟩ => exact Fin.ext (by have h : (y 0).val < 1 := (y 0).isLt; show (y 0).val = 0; omega) | ⟨1, _⟩ => rfl | ⟨2, _⟩ => rfl⟩
  show out0_10 _ _ _ _ _ _ _ _ (ix3 0 r n) = G10 m c (((cfg0.win 10).blk t).view.emb (ix3 0 r n))
  rw [emb10]
  unfold out0_10 k0_pay6
  rw [View.canon_unit_zero hz3]
  simp only [View.ld_unit_zero (S := S1x512x1024) hz3, View.ld_unit_zero (S := S1x1x1024) hz3, View.ld_unit_zero (S := S1x1024) hz2, View.ld_unit_zero (S := S1024x1024) hz2]
  refine (pay2_apply ..).trans ?_
  unfold G10
  refine Finset.sum_congr rfl fun k _ => ?_
  rw [pay4_blocks]
  exact congrArg _ (blk6 m c t k n)

theorem cover10 (i : S8x4096x1024.Idx) :
    ∃ t : Fin cfg0.N, (cfg0.win 10).flush t = true ∧ i ∈ ((cfg0.win 10).blk t).view.set := by
  have h2 : (i 2).val < 1024 := (i 2).isLt
  have h0 : (i 0).val < 8 := (i 0).isLt
  have h1 : (i 1).val < 4096 := (i 1).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  have e : ((cfg0.win 10).blk t).view.emb (ix3 0 ⟨(i 1).val % 512, by omega⟩ ⟨(i 2).val, h2⟩) = i := by
    refine (emb10 t _ _).trans ?_
    funext a
    apply Fin.ext
    match a with
    | ⟨0, _⟩ => show t.val / 8 = (i 0).val; omega
    | ⟨1, _⟩ => show 512 * (t.val % 8) + (i 1).val % 512 = (i 1).val; omega
    | ⟨2, _⟩ => rfl
  exact ⟨t, flush0_10 t, e ▸ View.emb_mem_set _ _⟩

theorem final10 : (dats m 0 c).arrAt 10 cfg0.N = G10 m c :=
  (dats m 0 c).arrAt_eq_of_cover 10 (G10 m c) (fun t _ => flushed10_eq m c t) cover10

/-- Result window 11's array: the product of the normed input with its weight. -/
def G11 : Vec Ideal S8x4096x2048 .bf16 := fun i =>
  (∑ k : Fin 1024, normed (X m c) (M m c) (Γ m c) (i 0) (i 1) k * m ((c : Thread nD τ).loc main_arg6) (ix2 k (i 2)) : EReal)

theorem emb11 (t : Fin cfg0.N) (r : Fin 512) (n : Fin 2048) :
    ((cfg0.win 11).blk t).view.emb (ix3 0 r n) = (ix3 (bt t) (row t r) n : S8x4096x2048.Idx) := by
  funext a
  apply Fin.ext
  obtain ⟨e0, e1, e2⟩ := idx11 t
  match a with
  | ⟨0, _⟩ => show win0_11.index t 0 * 1 + 1 * 0 = t.val / 8; omega
  | ⟨1, _⟩ => show win0_11.index t 1 * 512 + 1 * r.val = 512 * (t.val % 8) + r.val; omega
  | ⟨2, _⟩ => show win0_11.index t 2 * 2048 + 1 * n.val = n.val; omega

theorem flushed11_eq (t : Fin cfg0.N) :
    (dats m 0 c).flushed 11 t = ((cfg0.win 11).blk t).view.read (Elt Ideal) (G11 m c) := by
  rw [Value.flushed11]
  funext y
  rw [View.read_apply]
  obtain ⟨r, n, rfl⟩ : ∃ (r : Fin 512) (n : Fin 2048), y = (ix3 0 r n : S1x512x2048.Idx) :=
    ⟨y 1, y 2, funext fun a => by match a with | ⟨0, _⟩ => exact Fin.ext (by have h : (y 0).val < 1 := (y 0).isLt; show (y 0).val = 0; omega) | ⟨1, _⟩ => rfl | ⟨2, _⟩ => rfl⟩
  show out0_11 _ _ _ _ _ _ _ _ (ix3 0 r n) = G11 m c (((cfg0.win 11).blk t).view.emb (ix3 0 r n))
  rw [emb11]
  unfold out0_11 k0_pay6
  rw [View.canon_unit_zero hz3]
  simp only [View.ld_unit_zero (S := S1x512x1024) hz3, View.ld_unit_zero (S := S1x1x1024) hz3, View.ld_unit_zero (S := S1x1024) hz2, View.ld_unit_zero (S := S1024x2048) hz2]
  refine (pay3_apply ..).trans ?_
  unfold G11
  refine Finset.sum_congr rfl fun k _ => ?_
  rw [pay4_blocks]
  exact congrArg _ (blk7 m c t k n)

theorem cover11 (i : S8x4096x2048.Idx) :
    ∃ t : Fin cfg0.N, (cfg0.win 11).flush t = true ∧ i ∈ ((cfg0.win 11).blk t).view.set := by
  have h2 : (i 2).val < 2048 := (i 2).isLt
  have h0 : (i 0).val < 8 := (i 0).isLt
  have h1 : (i 1).val < 4096 := (i 1).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  have e : ((cfg0.win 11).blk t).view.emb (ix3 0 ⟨(i 1).val % 512, by omega⟩ ⟨(i 2).val, h2⟩) = i := by
    refine (emb11 t _ _).trans ?_
    funext a
    apply Fin.ext
    match a with
    | ⟨0, _⟩ => show t.val / 8 = (i 0).val; omega
    | ⟨1, _⟩ => show 512 * (t.val % 8) + (i 1).val % 512 = (i 1).val; omega
    | ⟨2, _⟩ => rfl
  exact ⟨t, flush0_11 t, e ▸ View.emb_mem_set _ _⟩

theorem final11 : (dats m 0 c).arrAt 11 cfg0.N = G11 m c :=
  (dats m 0 c).arrAt_eq_of_cover 11 (G11 m c) (fun t _ => flushed11_eq m c t) cover11

end Cert.Kernel3Ideal.InProj
-- ==== Proof.InProjRef.lean ====
module

public import proofs.«01_k».proof.Proof.InProj
public import proofs.«01_k».proof.Defs
public import proofs.«01_k».proof.Proof.Gen.Reference3Ideal.Read

@[expose] public section

noncomputable section

open Idealize.ShloMosaic Idealize.ShloMosaic.TcCoe Idealize.SL.Sem

namespace Cert.Reference3Ideal.InProj

open Cert.Reference3Ideal Cert.Reference3Ideal.Gen Cert.Reference3Ideal.Read Cert.Common
open Cert.Kernel3Ideal.InProj (normed bm modAt)

/-- The reference's normed and modulated input at an index. -/
theorem normed_apply (x : Vec Ideal S8x4096x1024 .f32) (mods : Vec Ideal S16x1x6144 .f32) (g : Vec Ideal S1024 .f32)
    (b : Fin 8) (s : Fin 4096) (k : Fin 1024) :
    val_main_v20 (F := Ideal) x mods g (ix3 b s k) = normed x mods g b s k := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2,
    normed, modulated]
  simp only [bm, modAt, Nat.zero_add]

theorem out_v22 (x : Vec Ideal S8x4096x1024 .f32) (mods : Vec Ideal S16x1x6144 .f32) (g : Vec Ideal S1024 .f32)
    (w : Vec Ideal S1024x512 .bf16) :
    (val_main_v22 (F := Ideal) x mods g w : Vec Ideal S8x4096x512 .f32)
      = fun i => (∑ k : Fin 1024, normed x mods g (i 0) (i 1) k * w (ix2 k (i 2)) : EReal) := by
  funext i
  unfold val_main_v22 val_main_v21
  generalize e : val_main_v20 (F := Ideal) x mods g = y
  pointwise
  exact Finset.sum_congr rfl fun k _ => by rw [← e]; exact congrArg (· * _) (normed_apply ..)

theorem out_v24 (x : Vec Ideal S8x4096x1024 .f32) (mods : Vec Ideal S16x1x6144 .f32) (g : Vec Ideal S1024 .f32)
    (w : Vec Ideal S1024x1024 .bf16) :
    (val_main_v24 (F := Ideal) x mods g w : Vec Ideal S8x4096x1024 .f32)
      = fun i => (∑ k : Fin 1024, normed x mods g (i 0) (i 1) k * w (ix2 k (i 2)) : EReal) := by
  funext i
  unfold val_main_v24 val_main_v23
  generalize e : val_main_v20 (F := Ideal) x mods g = y
  pointwise
  exact Finset.sum_congr rfl fun k _ => by rw [← e]; exact congrArg (· * _) (normed_apply ..)

theorem out_v29 (x : Vec Ideal S8x4096x1024 .f32) (mods : Vec Ideal S16x1x6144 .f32) (g : Vec Ideal S1024 .f32)
    (w : Vec Ideal S1024x1024 .bf16) :
    (val_main_v29 (F := Ideal) x mods g w : Vec Ideal S8x4096x1024 .bf16)
      = fun i => (∑ k : Fin 1024, normed x mods g (i 0) (i 1) k * w (ix2 k (i 2)) : EReal) := by
  funext i
  unfold val_main_v29 val_main_v26 val_main_v25
  generalize e : val_main_v20 (F := Ideal) x mods g = y
  pointwise
  exact Finset.sum_congr rfl fun k _ => by rw [← e]; exact congrArg (· * _) (normed_apply ..)

theorem out_v30 (x : Vec Ideal S8x4096x1024 .f32) (mods : Vec Ideal S16x1x6144 .f32) (g : Vec Ideal S1024 .f32)
    (w : Vec Ideal S1024x2048 .bf16) :
    (val_main_v30 (F := Ideal) x mods g w : Vec Ideal S8x4096x2048 .bf16)
      = fun i => (∑ k : Fin 1024, normed x mods g (i 0) (i 1) k * w (ix2 k (i 2)) : EReal) := by
  funext i
  unfold val_main_v30 val_main_v28 val_main_v27
  generalize e : val_main_v20 (F := Ideal) x mods g = y
  pointwise
  exact Finset.sum_congr rfl fun k _ => by rw [← e]; exact congrArg (· * _) (normed_apply ..)

end Cert.Reference3Ideal.InProj

namespace Cert.Proof

open Cert.Reference3Ideal.InProj Cert.Kernel3Ideal.InProj

/-- The in-projection: the kernel's four result arrays are the reference's. -/
theorem algebraic3 : Cert.algebraic_Kernel3Ideal_Reference3Ideal := by
  intro m ρ m' ρ' _ hagree
  refine ⟨fun c => G8 m c, fun c => G9 m c, fun c => G10 m c, fun c => G11 m c, ?_, ?_⟩
  · exact (θ_run Cert.Kernel3Ideal.defs _ _).mono
      (fun _ h c => ⟨(h c).1.trans (final8 m c), (h c).2.1.trans (final9 m c), (h c).2.2.1.trans (final10 m c),
        (h c).2.2.2.1.trans (final11 m c), (h c).2.2.2.2⟩)
      (Cert.Kernel3Ideal.Value.run_blocks (F := Ideal) m ρ)
  · refine (θ_run Cert.Reference3Ideal.defs _ _).mono (fun _ h c => ?_) (Cert.Reference3Ideal.Value.run (F := Ideal) m' ρ')
    obtain ⟨a0, a1, a2, a3, a4, a5, a6⟩ := hagree c
    obtain ⟨h0, h1, h2, h3, hr⟩ := h c
    refine ⟨h0.trans ?_, h1.trans ?_, h2.trans ?_, h3.trans ?_, hr⟩
    · rw [a0, a1, a2, a3]; exact out_v22 ..
    · rw [a0, a1, a2, a4]; exact out_v24 ..
    · rw [a0, a1, a2, a5]; exact out_v29 ..
    · rw [a0, a1, a2, a6]; exact out_v30 ..

end Cert.Proof

end
-- ==== Proof.Merge.lean ====
module

public import proofs.«01_k».proof.Proof.Common
public import proofs.«01_k».proof.Proof.Gen.Kernel2Ideal.Value
public import Idealize.ShloMosaic.Lib.Claim

@[expose] public section

noncomputable section

open Idealize.ShloMosaic Idealize.ShloMosaic.TcCoe Idealize.SL.Sem
open Idealize.ShloMosaic.Pipeline (Dat)

namespace Cert.Kernel2Ideal.Merge

open Cert.Kernel2Ideal Cert.Kernel2Ideal.Gen Cert.Common

/-! ## The body's payloads at an index -/

/-- Which half of the 1024 contracted channels an index lies in. -/
abbrev lo (k : Fin 512) : Fin 1024 := ⟨k.val, by omega⟩
abbrev hi (k : Fin 512) : Fin 1024 := ⟨512 + k.val, by omega⟩

theorem sum_halves (f : Fin 1024 → EReal) : ∑ k, f k = ∑ k, f (lo k) + ∑ k, f (hi k) :=
  Fin.sum_univ_add (a := 512) (b := 512) f

theorem pay2_apply (u v : Vec Ideal S1x512x512 .bf16) (w : Vec Ideal S1024x1024 .bf16) (r : Fin 512) (n : Fin 1024) :
    k0_pay2 u v w (ix2 r n)
      = ∑ k : Fin 512, u (ix3 0 r k) * w (ix2 (lo k) n) + ∑ k : Fin 512, v (ix3 0 r k) * w (ix2 (hi k) n) := by
  pointwise [k0_pay2]

theorem pay3_apply (h : Vec Ideal S1x512x1024 .f32) (z : Vec Ideal S1x512x1024 .bf16) (w : Vec Ideal S1024x1024 .bf16)
    (r : Fin 512) (n : Fin 1024) :
    k0_pay3 h z w (ix2 r n) = ∑ k : Fin 1024, h (ix3 0 r k) * gelu (z (ix3 0 r k)) * w (ix2 k n) := by
  pointwise! [k0_pay3, gelu]

theorem pay5_apply (f p a : FVec Ideal S512x1024 .f32) (b : Vec Ideal S1x512x1024 .bf16) (w : Vec Ideal S1024x1024 .bf16)
    (x : Vec Ideal S1x512x1024 .f32) (g : Vec Ideal S1x1x1024 .f32) (r : Fin 512) (n : Fin 1024) :
    k0_pay5 f p a (Scalar.ofBits .f32 0x3F000000#32) b w x g (ix2 r n)
      = x (ix3 0 r n) + g (ix3 0 0 n) * ∑ k : Fin 1024,
          (sigmoid (a (ix2 r k)) * f (ix2 r k) + sigmoid (b (ix3 0 r k)) * p (ix2 r k)) * w (ix2 k n) := by
  pointwise [k0_pay5]
  simp only [half_tanh]

theorem pay4_apply (z : Vec Ideal S1x512x1024 .bf16) (r : Fin 512) (n : Fin 1024) : k0_pay4 z (ix2 r n) = z (ix3 0 r n) := by
  pointwise [k0_pay4]

theorem pay6_apply (f p a : FVec Ideal S512x1024 .f32) (h : Ideal .f32) (b : Vec Ideal S1x512x1024 .bf16) (w : Vec Ideal S1024x1024 .bf16)
    (x : Vec Ideal S1x512x1024 .f32) (g : Vec Ideal S1x1x1024 .f32) (r : Fin 512) (n : Fin 1024) :
    k0_pay6 f p a h b w x g (ix3 0 r n) = k0_pay5 f p a h b w x g (ix2 r n) := by
  unfold k0_pay6
  generalize k0_pay5 f p a h b w x g = y
  pointwise

theorem pay1_apply (y : FVec Ideal S512x1024 .f32) (g : Vec Ideal S1x1024 .f32) (a b : Vec Ideal S1x1x1024 .f32)
    (r : Fin 512) (n : Fin 1024) :
    k0_pay1 y (k0_pay7 g) a b (ix3 0 r n) = modulated (fun k => y (ix2 r k)) (fun k => g (ix2 0 k))
      (fun k => a (ix3 0 0 k)) (fun k => b (ix3 0 0 k)) n := by
  pointwise [k0_pay1, k0_pay7, modulated]

variable (m : (ℓ : Loc nD τ sig) → Buf (Elt Ideal) ℓ) (c : Dev nD)

/-! ## The windows' blocks at an index: point `t` is batch `t / 8`, row block `t % 8` -/

abbrev bt (t : Fin cfg0.N) : Fin 8 := ⟨t.val / 8, by have h : t.val < cfg0.N := t.isLt; have e : cfg0.N = 64 := N_0; omega⟩
abbrev row (t : Fin cfg0.N) (r : Fin 512) : Fin 4096 := ⟨512 * (t.val % 8) + r.val, by omega⟩

/-- The rows of the modulation table: batch `b`'s, and the chunk of it that starts at `o`. -/
abbrev modAt (o : Nat) (h : o + 1024 ≤ 6144) (l : Fin 1024) : Fin 6144 := ⟨o + l.val, by omega⟩
abbrev bm (b : Fin 8) : Fin 16 := ⟨b.val, by omega⟩

theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem idx1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)

theorem idx2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

theorem idx3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)

theorem idx4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

theorem idx5 : ∀ t : Fin cfg0.N, win0_5.index t 0 = t.val / 8 ∧ win0_5.index t 1 = t.val % 8 ∧ win0_5.index t 2 = 1 :=
  (by decide +kernel : ∀ t : Fin grid0.N, win0_5.index t 0 = t.val / 8 ∧ win0_5.index t 1 = t.val % 8 ∧ win0_5.index t 2 = 1)

theorem idx6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)

theorem idx14 : ∀ t : Fin cfg0.N, win0_14.index t 0 = t.val / 8 ∧ win0_14.index t 1 = t.val % 8 ∧ win0_14.index t 2 = 0 :=
  (by decide +kernel : ∀ t : Fin grid0.N, win0_14.index t 0 = t.val / 8 ∧ win0_14.index t 1 = t.val % 8 ∧ win0_14.index t 2 = 0)

theorem idx15 : ∀ t : Fin cfg0.N, win0_15.index t 0 = t.val / 8 ∧ win0_15.index t 1 = t.val % 8 ∧ win0_15.index t 2 = 0 :=
  (by decide +kernel : ∀ t : Fin grid0.N, win0_15.index t 0 = t.val / 8 ∧ win0_15.index t 1 = t.val % 8 ∧ win0_15.index t 2 = 0)

theorem idx7 : ∀ t : Fin cfg0.N, win0_7.index t 0 = t.val / 8 ∧ win0_7.index t 1 = 0 ∧ win0_7.index t 2 = 2 :=
  (by decide +kernel : ∀ t : Fin grid0.N, win0_7.index t 0 = t.val / 8 ∧ win0_7.index t 1 = 0 ∧ win0_7.index t 2 = 2)

theorem idx8 : ∀ t : Fin cfg0.N, win0_8.index t 0 = t.val / 8 ∧ win0_8.index t 1 = 0 ∧ win0_8.index t 2 = 3 :=
  (by decide +kernel : ∀ t : Fin grid0.N, win0_8.index t 0 = t.val / 8 ∧ win0_8.index t 1 = 0 ∧ win0_8.index t 2 = 3)

theorem idx9 : ∀ t : Fin cfg0.N, win0_9.index t 0 = t.val / 8 ∧ win0_9.index t 1 = 0 ∧ win0_9.index t 2 = 4 :=
  (by decide +kernel : ∀ t : Fin grid0.N, win0_9.index t 0 = t.val / 8 ∧ win0_9.index t 1 = 0 ∧ win0_9.index t 2 = 4)

theorem idx_whole : ∀ t : Fin cfg0.N, win0_10.index t 0 = 0 ∧ win0_10.index t 1 = 0 ∧ win0_11.index t 0 = 0 ∧ win0_11.index t 1 = 0 ∧ win0_12.index t 0 = 0 ∧ win0_12.index t 1 = 0 ∧ win0_13.index t 0 = 0 ∧ win0_13.index t 1 = 0 :=
  (by decide +kernel : ∀ t : Fin grid0.N, win0_10.index t 0 = 0 ∧ win0_10.index t 1 = 0 ∧ win0_11.index t 0 = 0 ∧ win0_11.index t 1 = 0 ∧ win0_12.index t 0 = 0 ∧ win0_12.index t 1 = 0 ∧ win0_13.index t 0 = 0 ∧ win0_13.index t 1 = 0)

theorem blk0 (t : Fin cfg0.N) (r : Fin 512) (n : Fin 512) :
    iblk m c 0 t (ix3 0 r n) = m ((c : Thread nD τ).loc main_arg0) (ix3 (bt t) (row t r) n) := by
  unfold iblk
  rw [View.read_apply]
  show V m c main_arg0 _ = _
  rw [V_main_arg0]
  congr 1
  funext a
  apply Fin.ext
  obtain ⟨e0, e1, e2⟩ := idx0 t
  match a with
  | ⟨0, _⟩ => show win0_0.index t 0 * 1 + 1 * 0 = t.val / 8; omega
  | ⟨1, _⟩ => show win0_0.index t 1 * 512 + 1 * r.val = 512 * (t.val % 8) + r.val; omega
  | ⟨2, _⟩ => show win0_0.index t 2 * 512 + 1 * n.val = n.val; omega

theorem blk1 (t : Fin cfg0.N) (r : Fin 512) (n : Fin 512) :
    iblk m c 1 t (ix3 0 r n) = m ((c : Thread nD τ).loc main_arg1) (ix3 (bt t) (row t r) n) := by
  unfold iblk
  rw [View.read_apply]
  show V m c main_arg1 _ = _
  rw [V_main_arg1]
  congr 1
  funext a
  apply Fin.ext
  obtain ⟨e0, e1, e2⟩ := idx1 t
  match a with
  | ⟨0, _⟩ => show win0_1.index t 0 * 1 + 1 * 0 = t.val / 8; omega
  | ⟨1, _⟩ => show win0_1.index t 1 * 512 + 1 * r.val = 512 * (t.val % 8) + r.val; omega
  | ⟨2, _⟩ => show win0_1.index t 2 * 512 + 1 * n.val = n.val; omega

theorem blk2 (t : Fin cfg0.N) (r : Fin 512) (n : Fin 1024) :
    iblk m c 2 t (ix3 0 r n) = m ((c : Thread nD τ).loc main_arg2) (ix3 (bt t) (row t r) n) := by
  unfold iblk
  rw [View.read_apply]
  show V m c main_arg2 _ = _
  rw [V_main_arg2]
  congr 1
  funext a
  apply Fin.ext
  obtain ⟨e0, e1, e2⟩ := idx2 t
  match a with
  | ⟨0, _⟩ => show win0_2.index t 0 * 1 + 1 * 0 = t.val / 8; omega
  | ⟨1, _⟩ => show win0_2.index t 1 * 512 + 1 * r.val = 512 * (t.val % 8) + r.val; omega
  | ⟨2, _⟩ => show win0_2.index t 2 * 1024 + 1 * n.val = n.val; omega

theorem blk3 (t : Fin cfg0.N) (r : Fin 512) (n : Fin 1024) :
    iblk m c 3 t (ix3 0 r n) = m ((c : Thread nD τ).loc main_arg3) (ix3 (bt t) (row t r) n) := by
  unfold iblk
  rw [View.read_apply]
  show V m c main_arg3 _ = _
  rw [V_main_arg3]
  congr 1
  funext a
  apply Fin.ext
  obtain ⟨e0, e1, e2⟩ := idx3 t
  match a with
  | ⟨0, _⟩ => show win0_3.index t 0 * 1 + 1 * 0 = t.val / 8; omega
  | ⟨1, _⟩ => show win0_3.index t 1 * 512 + 1 * r.val = 512 * (t.val % 8) + r.val; omega
  | ⟨2, _⟩ => show win0_3.index t 2 * 1024 + 1 * n.val = n.val; omega

/-- The two gates' channels, one after the other in the gates' array. -/
abbrev gA (n : Fin 1024) : Fin 2048 := ⟨n.val, by omega⟩
abbrev gB (n : Fin 1024) : Fin 2048 := ⟨1024 + n.val, by omega⟩

theorem blk4 (t : Fin cfg0.N) (r : Fin 512) (n : Fin 1024) :
    iblk m c 4 t (ix3 0 r n) = m ((c : Thread nD τ).loc main_arg4) (ix3 (bt t) (row t r) (gA n)) := by
  unfold iblk
  rw [View.read_apply]
  show V m c main_arg4 _ = _
  rw [V_main_arg4]
  congr 1
  funext a
  apply Fin.ext
  obtain ⟨e0, e1, e2⟩ := idx4 t
  match a with
  | ⟨0, _⟩ => show win0_4.index t 0 * 1 + 1 * 0 = t.val / 8; omega
  | ⟨1, _⟩ => show win0_4.index t 1 * 512 + 1 * r.val = 512 * (t.val % 8) + r.val; omega
  | ⟨2, _⟩ => show win0_4.index t 2 * 1024 + 1 * n.val = n.val; omega

theorem blk5 (t : Fin cfg0.N) (r : Fin 512) (n : Fin 1024) :
    iblk m c 5 t (ix3 0 r n) = m ((c : Thread nD τ).loc main_arg4) (ix3 (bt t) (row t r) (gB n)) := by
  unfold iblk
  rw [View.read_apply]
  show V m c main_arg4 _ = _
  rw [V_main_arg4]
  congr 1
  funext a
  apply Fin.ext
  obtain ⟨e0, e1, e2⟩ := idx5 t
  match a with
  | ⟨0, _⟩ => show win0_5.index t 0 * 1 + 1 * 0 = t.val / 8; omega
  | ⟨1, _⟩ => show win0_5.index t 1 * 512 + 1 * r.val = 512 * (t.val % 8) + r.val; omega
  | ⟨2, _⟩ => show win0_5.index t 2 * 1024 + 1 * n.val = 1024 + n.val; omega

theorem blk6 (t : Fin cfg0.N) (r : Fin 512) (n : Fin 1024) :
    iblk m c 6 t (ix3 0 r n) = m ((c : Thread nD τ).loc main_arg5) (ix3 (bt t) (row t r) n) := by
  unfold iblk
  rw [View.read_apply]
  show V m c main_arg5 _ = _
  rw [V_main_arg5]
  congr 1
  funext a
  apply Fin.ext
  obtain ⟨e0, e1, e2⟩ := idx6 t
  match a with
  | ⟨0, _⟩ => show win0_6.index t 0 * 1 + 1 * 0 = t.val / 8; omega
  | ⟨1, _⟩ => show win0_6.index t 1 * 512 + 1 * r.val = 512 * (t.val % 8) + r.val; omega
  | ⟨2, _⟩ => show win0_6.index t 2 * 1024 + 1 * n.val = n.val; omega

theorem blk7 (t : Fin cfg0.N) (l : Fin 1024) :
    iblk m c 7 t (ix3 0 0 l) = m ((c : Thread nD τ).loc main_arg6) (ix3 (bm (bt t)) 0 (modAt 2048 (by decide) l)) := by
  unfold iblk
  rw [View.read_apply]
  show V m c main_arg6 _ = _
  rw [V_main_arg6]
  congr 1
  funext a
  apply Fin.ext
  obtain ⟨e0, e1, e2⟩ := idx7 t
  match a with
  | ⟨0, _⟩ => show win0_7.index t 0 * 1 + 1 * 0 = t.val / 8; omega
  | ⟨1, _⟩ => show win0_7.index t 1 * 1 + 1 * 0 = 0; omega
  | ⟨2, _⟩ => show win0_7.index t 2 * 1024 + 1 * l.val = 2048 + l.val; omega

theorem blk8 (t : Fin cfg0.N) (l : Fin 1024) :
    iblk m c 8 t (ix3 0 0 l) = m ((c : Thread nD τ).loc main_arg6) (ix3 (bm (bt t)) 0 (modAt 3072 (by decide) l)) := by
  unfold iblk
  rw [View.read_apply]
  show V m c main_arg6 _ = _
  rw [V_main_arg6]
  congr 1
  funext a
  apply Fin.ext
  obtain ⟨e0, e1, e2⟩ := idx8 t
  match a with
  | ⟨0, _⟩ => show win0_8.index t 0 * 1 + 1 * 0 = t.val / 8; omega
  | ⟨1, _⟩ => show win0_8.index t 1 * 1 + 1 * 0 = 0; omega
  | ⟨2, _⟩ => show win0_8.index t 2 * 1024 + 1 * l.val = 3072 + l.val; omega

theorem blk9 (t : Fin cfg0.N) (l : Fin 1024) :
    iblk m c 9 t (ix3 0 0 l) = m ((c : Thread nD τ).loc main_arg6) (ix3 (bm (bt t)) 0 (modAt 4096 (by decide) l)) := by
  unfold iblk
  rw [View.read_apply]
  show V m c main_arg6 _ = _
  rw [V_main_arg6]
  congr 1
  funext a
  apply Fin.ext
  obtain ⟨e0, e1, e2⟩ := idx9 t
  match a with
  | ⟨0, _⟩ => show win0_9.index t 0 * 1 + 1 * 0 = t.val / 8; omega
  | ⟨1, _⟩ => show win0_9.index t 1 * 1 + 1 * 0 = 0; omega
  | ⟨2, _⟩ => show win0_9.index t 2 * 1024 + 1 * l.val = 4096 + l.val; omega

theorem V_gain : V m c main_v0 = shapeCast S1x1024 (m ((c : Thread nD τ).loc main_arg7)) shapeCasts_S1024_S1x1024 := by
  entry_read
  rfl

theorem blk10 (t : Fin cfg0.N) (l : Fin 1024) :
    iblk m c 10 t (ix2 0 l) = m ((c : Thread nD τ).loc main_arg7) (ix1 l) := by
  unfold iblk
  rw [View.read_apply]
  show V m c main_v0 _ = _
  rw [V_gain]
  have e : ((cfg0.win 10).blk t).view.emb (ix2 0 l) = (ix2 0 l : S1x1024.Idx) := by
    funext a
    apply Fin.ext
    have h := idx_whole t
    match a with
    | ⟨0, _⟩ => show win0_10.index t 0 * 1 + 1 * 0 = 0; omega
    | ⟨1, _⟩ => show win0_10.index t 1 * 1024 + 1 * l.val = l.val; omega
  rw [e]
  pointwise

theorem blk11 (t : Fin cfg0.N) (k n : Fin 1024) :
    iblk m c 11 t (ix2 k n) = m ((c : Thread nD τ).loc main_arg8) (ix2 k n) := by
  unfold iblk
  rw [View.read_apply]
  show V m c main_arg8 _ = _
  rw [V_main_arg8]
  congr 1
  funext a
  apply Fin.ext
  have h := idx_whole t
  match a with
  | ⟨0, _⟩ => show win0_11.index t 0 * 1024 + 1 * k.val = k.val; omega
  | ⟨1, _⟩ => show win0_11.index t 1 * 1024 + 1 * n.val = n.val; omega

theorem blk12 (t : Fin cfg0.N) (k n : Fin 1024) :
    iblk m c 12 t (ix2 k n) = m ((c : Thread nD τ).loc main_arg9) (ix2 k n) := by
  unfold iblk
  rw [View.read_apply]
  show V m c main_arg9 _ = _
  rw [V_main_arg9]
  congr 1
  funext a
  apply Fin.ext
  have h := idx_whole t
  match a with
  | ⟨0, _⟩ => show win0_12.index t 0 * 1024 + 1 * k.val = k.val; omega
  | ⟨1, _⟩ => show win0_12.index t 1 * 1024 + 1 * n.val = n.val; omega

theorem blk13 (t : Fin cfg0.N) (k n : Fin 1024) :
    iblk m c 13 t (ix2 k n) = m ((c : Thread nD τ).loc main_arg10) (ix2 k n) := by
  unfold iblk
  rw [View.read_apply]
  show V m c main_arg10 _ = _
  rw [V_main_arg10]
  congr 1
  funext a
  apply Fin.ext
  have h := idx_whole t
  match a with
  | ⟨0, _⟩ => show win0_13.index t 0 * 1024 + 1 * k.val = k.val; omega
  | ⟨1, _⟩ => show win0_13.index t 1 * 1024 + 1 * n.val = n.val; omega

/-! ## The result arrays -/

section Spec

variable (u v : S8x4096x512.Idx → EReal) (h z : S8x4096x1024.Idx → EReal) (zg : S8x4096x2048.Idx → EReal)
  (x : S8x4096x1024.Idx → EReal) (mods : S16x1x6144.Idx → EReal) (g : S1024.Idx → EReal) (wc wr wo : S1024x1024.Idx → EReal)

/-- The Fourier branch: the real half by the first 512 rows of the weight, the imaginary half by the last 512. -/
def fourier (b : Fin 8) (s : Fin 4096) (n : Fin 1024) : EReal :=
  ∑ k : Fin 512, u (ix3 b s k) * wc (ix2 (lo k) n) + ∑ k : Fin 512, v (ix3 b s k) * wc (ix2 (hi k) n)

/-- The recurrent branch: the gated sum of the two directions, projected. -/
def recurrent (b : Fin 8) (s : Fin 4096) (n : Fin 1024) : EReal :=
  ∑ k : Fin 1024, h (ix3 b s k) * gelu (z (ix3 b s k)) * wr (ix2 k n)

/-- The residual stream after the mixing half of the layer. -/
def stream (b : Fin 8) (s : Fin 4096) (n : Fin 1024) : EReal :=
  x (ix3 b s n) + mods (ix3 (bm b) 0 (modAt 2048 (by decide) n)) * ∑ k : Fin 1024,
    (sigmoid (zg (ix3 b s (gA k))) * fourier u v wc b s k + sigmoid (zg (ix3 b s (gB k))) * recurrent h z wr b s k) * wo (ix2 k n)

/-- The stream normed and modulated for the feed-forward half. -/
def streamNormed (b : Fin 8) (s : Fin 4096) (n : Fin 1024) : EReal :=
  modulated (fun k => stream u v h z zg x mods wc wr wo b s k) (fun k => g (ix1 k))
    (fun k => mods (ix3 (bm b) 0 (modAt 3072 (by decide) k))) (fun k => mods (ix3 (bm b) 0 (modAt 4096 (by decide) k))) n

end Spec

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)

theorem hz3 : (![0, 0, 0] : Fin 3 → Nat) = fun _ => 0 := funext fun a => by fin_cases a <;> rfl
theorem hz2 : (![0, 0] : Fin 2 → Nat) = fun _ => 0 := funext fun a => by fin_cases a <;> rfl

theorem pay5_blocks (t : Fin cfg0.N) (r : Fin 512) (n : Fin 1024) :
    k0_pay5 (k0_pay2 (iblk m c 0 t) (iblk m c 1 t) (iblk m c 11 t)) (k0_pay3 (iblk m c 2 t) (iblk m c 3 t) (iblk m c 12 t))
        (k0_pay4 (iblk m c 4 t)) (Scalar.ofBits .f32 0x3F000000#32) (iblk m c 5 t) (iblk m c 13 t) (iblk m c 6 t) (iblk m c 7 t) (ix2 r n)
      = stream (A0 m c) (A1 m c) (A2 m c) (A3 m c) (A4 m c) (A5 m c) (A6 m c) (A8 m c) (A9 m c) (A10 m c) (bt t) (row t r) n := by
  refine (pay5_apply ..).trans ?_
  unfold stream
  refine congrArg₂ (· + ·) (blk6 m c t r n) (congrArg₂ (· * ·) (blk7 m c t n) (Finset.sum_congr rfl fun k _ => ?_))
  refine congrArg₂ (· * ·) (congrArg₂ (· + ·) (congrArg₂ (· * ·) (congrArg sigmoid ((pay4_apply ..).trans (blk4 m c t r k))) ?_)
    (congrArg₂ (· * ·) (congrArg sigmoid (blk5 m c t r k)) ?_)) (blk13 m c t k n)
  · refine (pay2_apply ..).trans ?_
    exact congrArg₂ (· + ·) (Finset.sum_congr rfl fun l _ => congrArg₂ (· * ·) (blk0 m c t r l) (blk11 m c t (lo l) k))
      (Finset.sum_congr rfl fun l _ => congrArg₂ (· * ·) (blk1 m c t r l) (blk11 m c t (hi l) k))
  · refine (pay3_apply ..).trans ?_
    exact Finset.sum_congr rfl fun l _ => congrArg₂ (· * ·) (congrArg₂ (· * ·) (blk2 m c t r l) (congrArg gelu (blk3 m c t r l)))
      (blk12 m c t l k)

/-- Result window 14's array. -/
def G14 : Vec Ideal S8x4096x1024 .f32 := fun i => (stream (A0 m c) (A1 m c) (A2 m c) (A3 m c) (A4 m c) (A5 m c) (A6 m c) (A8 m c) (A9 m c) (A10 m c) (i 0) (i 1) (i 2) : EReal)

theorem emb14 (t : Fin cfg0.N) (r : Fin 512) (n : Fin 1024) :
    ((cfg0.win 14).blk t).view.emb (ix3 0 r n) = (ix3 (bt t) (row t r) n : S8x4096x1024.Idx) := by
  funext a
  apply Fin.ext
  obtain ⟨e0, e1, e2⟩ := idx14 t
  match a with
  | ⟨0, _⟩ => show win0_14.index t 0 * 1 + 1 * 0 = t.val / 8; omega
  | ⟨1, _⟩ => show win0_14.index t 1 * 512 + 1 * r.val = 512 * (t.val % 8) + r.val; omega
  | ⟨2, _⟩ => show win0_14.index t 2 * 1024 + 1 * n.val = n.val; omega

theorem flushed14_eq (t : Fin cfg0.N) :
    (dats m 0 c).flushed 14 t = ((cfg0.win 14).blk t).view.read (Elt Ideal) (G14 m c) := by
  rw [Value.flushed14]
  funext y
  rw [View.read_apply]
  obtain ⟨r, n, rfl⟩ : ∃ (r : Fin 512) (n : Fin 1024), y = (ix3 0 r n : S1x512x1024.Idx) :=
    ⟨y 1, y 2, funext fun a => by match a with | ⟨0, _⟩ => exact Fin.ext (by have h : (y 0).val < 1 := (y 0).isLt; show (y 0).val = 0; omega) | ⟨1, _⟩ => rfl | ⟨2, _⟩ => rfl⟩
  show out0_14 _ _ _ _ _ _ _ _ _ _ _ _ _ _ (ix3 0 r n) = G14 m c (((cfg0.win 14).blk t).view.emb (ix3 0 r n))
  rw [emb14]
  unfold out0_14 k0_pay8 k0_pay9 k0_pay10
  rw [View.canon_unit_zero hz3]
  simp only [View.ld_unit_zero (S := S1x512x1024) hz3, View.ld_unit_zero (S := S1x512x512) hz3, View.ld_unit_zero (S := S1x1x1024) hz3, View.ld_unit_zero (S := S1x1024) hz2, View.ld_unit_zero (S := S1024x1024) hz2]
  refine (pay6_apply ..).trans ?_
  exact pay5_blocks m c t r n

theorem cover14 (i : S8x4096x1024.Idx) :
    ∃ t : Fin cfg0.N, (cfg0.win 14).flush t = true ∧ i ∈ ((cfg0.win 14).blk t).view.set := by
  have h2 : (i 2).val < 1024 := (i 2).isLt
  have h0 : (i 0).val < 8 := (i 0).isLt
  have h1 : (i 1).val < 4096 := (i 1).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  have e : ((cfg0.win 14).blk t).view.emb (ix3 0 ⟨(i 1).val % 512, by omega⟩ ⟨(i 2).val, h2⟩) = i := by
    refine (emb14 t _ _).trans ?_
    funext a
    apply Fin.ext
    match a with
    | ⟨0, _⟩ => show t.val / 8 = (i 0).val; omega
    | ⟨1, _⟩ => show 512 * (t.val % 8) + (i 1).val % 512 = (i 1).val; omega
    | ⟨2, _⟩ => rfl
  exact ⟨t, flush0_14 t, e ▸ View.emb_mem_set _ _⟩

theorem final14 : (dats m 0 c).arrAt 14 cfg0.N = G14 m c :=
  (dats m 0 c).arrAt_eq_of_cover 14 (G14 m c) (fun t _ => flushed14_eq m c t) cover14

/-- Result window 15's array. -/
def G15 : Vec Ideal S8x4096x1024 .bf16 := fun i => (streamNormed (A0 m c) (A1 m c) (A2 m c) (A3 m c) (A4 m c) (A5 m c) (A6 m c) (A7 m c) (A8 m c) (A9 m c) (A10 m c) (i 0) (i 1) (i 2) : EReal)

theorem emb15 (t : Fin cfg0.N) (r : Fin 512) (n : Fin 1024) :
    ((cfg0.win 15).blk t).view.emb (ix3 0 r n) = (ix3 (bt t) (row t r) n : S8x4096x1024.Idx) := by
  funext a
  apply Fin.ext
  obtain ⟨e0, e1, e2⟩ := idx15 t
  match a with
  | ⟨0, _⟩ => show win0_15.index t 0 * 1 + 1 * 0 = t.val / 8; omega
  | ⟨1, _⟩ => show win0_15.index t 1 * 512 + 1 * r.val = 512 * (t.val % 8) + r.val; omega
  | ⟨2, _⟩ => show win0_15.index t 2 * 1024 + 1 * n.val = n.val; omega

theorem flushed15_eq (t : Fin cfg0.N) :
    (dats m 0 c).flushed 15 t = ((cfg0.win 15).blk t).view.read (Elt Ideal) (G15 m c) := by
  rw [Value.flushed15]
  funext y
  rw [View.read_apply]
  obtain ⟨r, n, rfl⟩ : ∃ (r : Fin 512) (n : Fin 1024), y = (ix3 0 r n : S1x512x1024.Idx) :=
    ⟨y 1, y 2, funext fun a => by match a with | ⟨0, _⟩ => exact Fin.ext (by have h : (y 0).val < 1 := (y 0).isLt; show (y 0).val = 0; omega) | ⟨1, _⟩ => rfl | ⟨2, _⟩ => rfl⟩
  show out0_15 _ _ _ _ _ _ _ _ _ _ _ _ _ _ (ix3 0 r n) = G15 m c (((cfg0.win 15).blk t).view.emb (ix3 0 r n))
  rw [emb15]
  unfold out0_15 k0_pay8 k0_pay9 k0_pay10
  rw [View.canon_unit_zero hz3]
  simp only [View.ld_unit_zero (S := S1x512x1024) hz3, View.ld_unit_zero (S := S1x512x512) hz3, View.ld_unit_zero (S := S1x1x1024) hz3, View.ld_unit_zero (S := S1x1024) hz2, View.ld_unit_zero (S := S1024x1024) hz2]
  refine (pay1_apply ..).trans ?_
  show _ = streamNormed _ _ _ _ _ _ _ _ _ _ _ _ _ _
  unfold streamNormed
  congr 1
  · funext k; exact pay5_blocks m c t r k
  · funext k; exact blk10 m c t k
  · funext k; exact blk8 m c t k
  · funext k; exact blk9 m c t k

theorem cover15 (i : S8x4096x1024.Idx) :
    ∃ t : Fin cfg0.N, (cfg0.win 15).flush t = true ∧ i ∈ ((cfg0.win 15).blk t).view.set := by
  have h2 : (i 2).val < 1024 := (i 2).isLt
  have h0 : (i 0).val < 8 := (i 0).isLt
  have h1 : (i 1).val < 4096 := (i 1).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  have e : ((cfg0.win 15).blk t).view.emb (ix3 0 ⟨(i 1).val % 512, by omega⟩ ⟨(i 2).val, h2⟩) = i := by
    refine (emb15 t _ _).trans ?_
    funext a
    apply Fin.ext
    match a with
    | ⟨0, _⟩ => show t.val / 8 = (i 0).val; omega
    | ⟨1, _⟩ => show 512 * (t.val % 8) + (i 1).val % 512 = (i 1).val; omega
    | ⟨2, _⟩ => rfl
  exact ⟨t, flush0_15 t, e ▸ View.emb_mem_set _ _⟩

theorem final15 : (dats m 0 c).arrAt 15 cfg0.N = G15 m c :=
  (dats m 0 c).arrAt_eq_of_cover 15 (G15 m c) (fun t _ => flushed15_eq m c t) cover15

end Cert.Kernel2Ideal.Merge
-- ==== Proof.MergeRef.lean ====
module

public import proofs.«01_k».proof.Proof.Merge
public import proofs.«01_k».proof.Defs
public import proofs.«01_k».proof.Proof.Gen.Reference2Ideal.Read

@[expose] public section

noncomputable section

open Idealize.ShloMosaic Idealize.ShloMosaic.TcCoe Idealize.SL.Sem

namespace Cert.Reference2Ideal.Merge

open Cert.Reference2Ideal Cert.Reference2Ideal.Gen Cert.Reference2Ideal.Read Cert.Common
open Cert.Kernel2Ideal.Merge (fourier recurrent stream streamNormed bm modAt lo hi gA gB)

variable (u v : Vec Ideal S8x4096x512 .bf16) (h : Vec Ideal S8x4096x1024 .f32) (z : Vec Ideal S8x4096x1024 .bf16)
  (zg : Vec Ideal S8x4096x2048 .bf16) (x : Vec Ideal S8x4096x1024 .f32) (mods : Vec Ideal S16x1x6144 .f32)
  (g : Vec Ideal S1024 .f32) (wc wr wo : Vec Ideal S1024x1024 .bf16)

theorem fourier_apply (b : Fin 8) (s : Fin 4096) (n : Fin 1024) :
    val_main_v11 (F := Ideal) u v wc (ix3 b s n) = fourier u v wc b s n := by
  pointwise [val_main_v11, val_main_v10, val_main_v9, val_main_v8, val_main_v7, val_main_v6, val_main_v5, val_main_v4, val_main_v3, fourier]

theorem recurrent_apply (b : Fin 8) (s : Fin 4096) (n : Fin 1024) :
    val_main_v28 (F := Ideal) h z wr (ix3 b s n) = recurrent h z wr b s n := by
  pointwise [val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_cst, val_main_cst_0, val_main_cst_1, val_main_cst_2, recurrent, gelu]

theorem sigmoid_apply (b : Fin 8) (s : Fin 4096) (n : Fin 2048) :
    val_main_v35 (F := Ideal) zg (ix3 b s n) = sigmoid (zg (ix3 b s n)) := by
  pointwise [val_main_v35, val_main_v34, val_main_v33, val_main_v32, val_main_v31, val_main_v30, val_main_v29, val_main_cst_3,
    val_main_cst_4, sigmoid]

theorem stream_apply (b : Fin 8) (s : Fin 4096) (n : Fin 1024) :
    val_main_v45 (F := Ideal) u v h z zg x mods wc wr wo (ix3 b s n) = stream u v h z zg x mods wc wr wo b s n := by
  unfold val_main_v45 val_main_v44 val_main_v43 val_main_v42 val_main_v41 val_main_v40 val_main_v39 val_main_v38 val_main_v37 val_main_v36 val_main_v0
  generalize ef : val_main_v11 (F := Ideal) u v wc = f
  generalize er : val_main_v28 (F := Ideal) h z wr = p
  generalize es : val_main_v35 (F := Ideal) zg = q
  pointwise
  unfold stream
  refine congrArg _ (congrArg _ (Finset.sum_congr rfl fun k _ => ?_))
  refine congrArg (· * _) ?_
  rw [← ef, ← er, ← es]
  exact congrArg₂ (· + ·) (congrArg₂ (· * ·) (sigmoid_apply zg b s _) (fourier_apply u v wc b s k))
    (congrArg₂ (· * ·) (sigmoid_apply zg b s _) (recurrent_apply h z wr b s k))

theorem streamNormed_apply (b : Fin 8) (s : Fin 4096) (n : Fin 1024) :
    val_main_v65 (F := Ideal) u v h z zg x mods g wc wr wo (ix3 b s n) = streamNormed u v h z zg x mods g wc wr wo b s n := by
  unfold val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_cst_5 val_main_cst_6 val_main_cst_7 val_main_cst_8 val_main_v1 val_main_v2
  generalize e : val_main_v45 (F := Ideal) u v h z zg x mods wc wr wo = y
  pointwise
  unfold streamNormed modulated
  have hy : ∀ k, y (ix3 b s k) = stream u v h z zg x mods wc wr wo b s k := fun k => by rw [← e]; exact stream_apply ..
  simp only [hy]

end Cert.Reference2Ideal.Merge

namespace Cert.Proof

open Cert.Reference2Ideal.Merge Cert.Kernel2Ideal.Merge

/-- The merge: the kernel's two result arrays are the reference's. -/
theorem algebraic2 : Cert.algebraic_Kernel2Ideal_Reference2Ideal := by
  intro m ρ m' ρ' _ hagree
  refine ⟨fun c => G14 m c, fun c => G15 m c, ?_, ?_⟩
  · exact (θ_run Cert.Kernel2Ideal.defs _ _).mono
      (fun _ h c => ⟨(h c).1.trans (final14 m c), (h c).2.1.trans (final15 m c), (h c).2.2⟩)
      (Cert.Kernel2Ideal.Value.run_blocks (F := Ideal) m ρ)
  · refine (θ_run Cert.Reference2Ideal.defs _ _).mono (fun _ h c => ?_) (Cert.Reference2Ideal.Value.run (F := Ideal) m' ρ')
    obtain ⟨a0, a1, a2, a3, a4, a5, a6, a7, a8, a9, a10⟩ := hagree c
    obtain ⟨h0, h1, hr⟩ := h c
    refine ⟨h0.trans ?_, h1.trans ?_, hr⟩
    · refine (Cert.Reference2Ideal.Read.val_main_v45_eq ..).trans ?_
      rw [a0, a1, a2, a3, a4, a5, a6, a8, a9, a10]
      funext i
      refine (congrArg _ (eq_ix3 i)).trans ?_
      exact stream_apply ..
    · refine (Cert.Reference2Ideal.Read.val_main_v65_eq ..).trans ?_
      rw [a0, a1, a2, a3, a4, a5, a6, a7, a8, a9, a10]
      funext i
      refine (congrArg _ (eq_ix3 i)).trans ?_
      exact streamNormed_apply ..

end Cert.Proof

end
-- ==== Proof.lean ====
module

public import proofs.«01_k».proof.Proof.KernelFrame
public import proofs.«01_k».proof.Proof.FfnClaim
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.InProjRef
public import proofs.«01_k».proof.Proof.MergeRef
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Adequacy
public import Idealize.ShloMosaic.Init

@[expose] public section

noncomputable section

namespace Cert.Proof

open Idealize.ShloMosaic Idealize.SL.Sem Cert.Kernel2

/-! The references run on the host alone: they keep their arguments and declare no semaphore. -/

theorem frame_reference2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Ffn.frame m ρ,
  frame_ffn,
  frame_ffn_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  trivial, algebraic, trivial, algebraic2, trivial, algebraic3⟩

end Cert.Proof

end
